-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v14_0)) (v1 : (c : Dev Cert.ProjIdeal.nD) → Buf (Elt Ideal) ((c.tc : Thread Cert.ProjIdeal.nD Cert.ProjIdeal.τ).loc Cert.ProjIdeal.main_v14_1)) (v2 : (c : Dev Cert.ProjIdeal.nD) → Buf (Elt Ideal) ((c.tc : Thread Cert.ProjIdeal.nD Cert.ProjIdeal.τ).loc Cert.ProjIdeal.main_v14_2)) (v3 : (c : Dev Cert.ProjIdeal.nD) → Buf (Elt Ideal) ((c.tc : Thread Cert.ProjIdeal.nD Cert.ProjIdeal.τ).loc Cert.ProjIdeal.main_v14_3)) (v4 : (c : Dev Cert.ProjIdeal.nD) → Buf (Elt Ideal) ((c.tc : Thread Cert.ProjIdeal.nD Cert.ProjIdeal.τ).loc Cert.ProjIdeal.main_v14_4)) (v5 : (c : Dev Cert.ProjIdeal.nD) → Buf (Elt Ideal) ((c.tc : Thread Cert.ProjIdeal.nD Cert.ProjIdeal.τ).loc Cert.ProjIdeal.main_v14_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14_0) = v0 c
          ∧ r.2.mem ((c.tc : Thread Cert.ProjIdeal.nD Cert.ProjIdeal.τ).loc Cert.ProjIdeal.main_v14_1) = v1 c
          ∧ r.2.mem ((c.tc : Thread Cert.ProjIdeal.nD Cert.ProjIdeal.τ).loc Cert.ProjIdeal.main_v14_2) = v2 c
          ∧ r.2.mem ((c.tc : Thread Cert.ProjIdeal.nD Cert.ProjIdeal.τ).loc Cert.ProjIdeal.main_v14_3) = v3 c
          ∧ r.2.mem ((c.tc : Thread Cert.ProjIdeal.nD Cert.ProjIdeal.τ).loc Cert.ProjIdeal.main_v14_4) = v4 c
          ∧ r.2.mem ((c.tc : Thread Cert.ProjIdeal.nD Cert.ProjIdeal.τ).loc Cert.ProjIdeal.main_v14_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v43) = v0 c
          ∧ r.2.mem ((c.tc : Thread Cert.ProjRefIdeal.nD Cert.ProjRefIdeal.τ).loc Cert.ProjRefIdeal.main_v44) = v1 c
          ∧ r.2.mem ((c.tc : Thread Cert.ProjRefIdeal.nD Cert.ProjRefIdeal.τ).loc Cert.ProjRefIdeal.main_v45) = v2 c
          ∧ r.2.mem ((c.tc : Thread Cert.ProjRefIdeal.nD Cert.ProjRefIdeal.τ).loc Cert.ProjRefIdeal.main_v46) = v3 c
          ∧ r.2.mem ((c.tc : Thread Cert.ProjRefIdeal.nD Cert.ProjRefIdeal.τ).loc Cert.ProjRefIdeal.main_v30) = v4 c
          ∧ r.2.mem ((c.tc : Thread Cert.ProjRefIdeal.nD Cert.ProjRefIdeal.τ).loc Cert.ProjRefIdeal.main_v34) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
-- ==== Pre_finite.lean ====
abbrev S32768x1024 : Shape := ⟨2, ![32768, 1024]⟩
abbrev S8x4096x4x64 : Shape := ⟨4, ![8, 4096, 4, 64]⟩
abbrev S16x128x256 : Shape := ⟨3, ![16, 128, 256]⟩
abbrev S16 : Shape := ⟨1, ![16]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  bcast_S_S8x4096x4x64 : S_.BroadcastsInDim S8x4096x4x64 (![] : Fin 0 → Fin S8x4096x4x64.rank)
  bcast_S_S16x128x256 : S_.BroadcastsInDim S16x128x256 (![] : Fin 0 → Fin S16x128x256.rank)
  bcast_S_S16 : S_.BroadcastsInDim S16 (![] : Fin 0 → Fin S16.rank)

variable [Facts]

def fn {F : FTy → Type} [FloatOps F] (main_arg0 : FVec F S32768x1024 .f32) (main_arg1 : FVec F S32768x1024 .bf16) (main_arg2 : FVec F S8x4096x4x64 .f32) (main_arg3 : FVec F S8x4096x4x64 .f32) (main_arg4 : FVec F S16x128x256 .f32) (main_arg5 : FVec F S16 .f32) (main_arg6 : FVec F S1024x1024 .f32) (main_arg7 : FVec F S1024 .f32) (main_arg8 : FVec F S1024x5632 .f32) (main_arg9 : FVec F S2816x1024 .f32) : IVec S32768x1024 1 × IVec S8x4096x4x64 1 × IVec S16x128x256 1 × IVec S16 1 :=
  let main_v0 : FVec F S32768x1024 .f32 := (extf .f32 · bitsLt_bf16_f32) main_arg1
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S8x4096x4x64 .f32 := Host.absf main_arg2
  let main_cst_0 : FVec F S_ .f32 := constant S_ .f32 0x7F800000#32
  let main_v5 : FVec F S8x4096x4x64 .f32 := broadcastInDim S8x4096x4x64 ![] bcast_S_S8x4096x4x64 main_cst_0
  let main_v6 : IVec S8x4096x4x64 1 := cmpf .olt main_v4 main_v5
  let main_v7 : FVec F S16x128x256 .f32 := Host.absf main_arg4
  let main_cst_1 : FVec F S_ .f32 := constant S_ .f32 0x7F800000#32
  let main_v8 : FVec F S16x128x256 .f32 := broadcastInDim S16x128x256 ![] bcast_S_S16x128x256 main_cst_1
  let main_v9 : IVec S16x128x256 1 := cmpf .olt main_v7 main_v8
  let main_v10 : FVec F S16 .f32 := Host.absf main_arg5
  let main_cst_2 : FVec F S_ .f32 := constant S_ .f32 0x7F800000#32
  let main_v11 : FVec F S16 .f32 := broadcastInDim S16 ![] bcast_S_S16 main_cst_2
  let main_v12 : IVec S16 1 := cmpf .olt main_v10 main_v11
  (main_v3, main_v6, main_v9, main_v12)
-- ==== Kernel.lean ====
abbrev S32768x1024 : Shape := ⟨2, ![32768, 1024]⟩
abbrev S8x4096x4x64 : Shape := ⟨4, ![8, 4096, 4, 64]⟩
abbrev S16x128x256 : Shape := ⟨3, ![16, 128, 256]⟩
abbrev S16 : Shape := ⟨1, ![16]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x4096x4x128 : Shape := ⟨4, ![8, 4096, 4, 128]⟩
abbrev S32768x512 : Shape := ⟨2, ![32768, 512]⟩
abbrev S8x4096x256 : Shape := ⟨3, ![8, 4096, 256]⟩
abbrev S8x256x4096 : Shape := ⟨3, ![8, 256, 4096]⟩
abbrev S128x256 : Shape := ⟨2, ![128, 256]⟩
abbrev S_ : Shape := ⟨0, ![]⟩
abbrev S1x128x256 : Shape := ⟨3, ![1, 128, 256]⟩
abbrev S2x128x256 : Shape := ⟨3, ![2, 128, 256]⟩
abbrev S2x1x128x256 : Shape := ⟨4, ![2, 1, 128, 256]⟩
abbrev S1x16x128x256 : Shape := ⟨4, ![1, 16, 128, 256]⟩
abbrev S2x16x128x256 : Shape := ⟨4, ![2, 16, 128, 256]⟩
abbrev S2x8x2x128x256 : Shape := ⟨5, ![2, 8, 2, 128, 256]⟩
abbrev S2x8x256x2x128 : Shape := ⟨5, ![2, 8, 256, 2, 128]⟩
abbrev S2x8x256x256 : Shape := ⟨4, ![2, 8, 256, 256]⟩
abbrev S1024x2x11x256 : Shape := ⟨4, ![1024, 2, 11, 256]⟩
abbrev S1024x11x2x256 : Shape := ⟨4, ![1024, 11, 2, 256]⟩
abbrev S1x1024 : Shape := ⟨2, ![1, 1024]⟩
abbrev S512x1024 : Shape := ⟨2, ![512, 1024]⟩
abbrev S128x512 : Shape := ⟨2, ![128, 512]⟩
abbrev S512x512 : Shape := ⟨2, ![512, 512]⟩
abbrev S1x256x128 : Shape := ⟨3, ![1, 256, 128]⟩
abbrev S1x256x512 : Shape := ⟨3, ![1, 256, 512]⟩
abbrev S512x2816 : Shape := ⟨2, ![512, 2816]⟩
abbrev S2x512x1024 : Shape := ⟨3, ![2, 512, 1024]⟩
abbrev S128x128 : Shape := ⟨2, ![128, 128]⟩
abbrev S1x256 : Shape := ⟨2, ![1, 256]⟩
abbrev S64x256 : Shape := ⟨2, ![64, 256]⟩
abbrev S1 : Shape := ⟨1, ![1]⟩
abbrev S1x512x1024 : Shape := ⟨3, ![1, 512, 1024]⟩
abbrev S512 : Shape := ⟨1, ![512]⟩
abbrev S512x1 : Shape := ⟨2, ![512, 1]⟩
abbrev S1x64x128 : Shape := ⟨3, ![1, 64, 128]⟩
abbrev S64x128 : Shape := ⟨2, ![64, 128]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S1024x256 : Shape := ⟨2, ![1024, 256]⟩
abbrev S512x256 : Shape := ⟨2, ![512, 256]⟩
abbrev S1024x128 : Shape := ⟨2, ![1024, 128]⟩
abbrev S128x1024 : Shape := ⟨2, ![128, 1024]⟩
abbrev S1x128x1024 : Shape := ⟨3, ![1, 128, 1024]⟩

abbrev nBuf : Space → Nat
  | .hbm => 53
  | .vmem => 21
  | .smem => 1
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S8x4096x4x64, .f32⟩
  | .hbm, ⟨3, _⟩ => ⟨S8x4096x4x64, .f32⟩
  | .hbm, ⟨4, _⟩ => ⟨S16x128x256, .f32⟩
  | .hbm, ⟨5, _⟩ => ⟨S16, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S8x4096x4x128, .f32⟩
  | .hbm, ⟨11, _⟩ => ⟨S32768x512, .f32⟩
  | .hbm, ⟨12, _⟩ => ⟨S8x4096x256, .f32⟩
  | .hbm, ⟨13, _⟩ => ⟨S8x256x4096, .f32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i32⟩
  | .hbm, ⟨19, _⟩ => ⟨S128x256, .i32⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S_, .i32⟩
  | .hbm, ⟨24, _⟩ => ⟨S128x256, .i32⟩
  | .hbm, ⟨25, _⟩ => ⟨S128x256, .i1⟩
  | .hbm, ⟨26, _⟩ => ⟨S128x256, .i1⟩
  | .hbm, ⟨27, _⟩ => ⟨S_, .i32⟩
  | .hbm, ⟨28, _⟩ => ⟨S128x256, .i32⟩
  | .hbm, ⟨29, _⟩ => ⟨S128x256, .i1⟩
  | .hbm, ⟨30, _⟩ => ⟨S128x256, .i1⟩
  | .hbm, ⟨31, _⟩ => ⟨S1x128x256, .i1⟩
  | .hbm, ⟨32, _⟩ => ⟨S1x128x256, .i1⟩
  | .hbm, ⟨33, _⟩ => ⟨S2x128x256, .i1⟩
  | .hbm, ⟨34, _⟩ => ⟨S2x1x128x256, .i1⟩
  | .hbm, ⟨35, _⟩ => ⟨S1x16x128x256, .f32⟩
  | .hbm, ⟨36, _⟩ => ⟨S_, .f32⟩
  | .hbm, ⟨37, _⟩ => ⟨S_, .f32⟩
  | .hbm, ⟨38, _⟩ => ⟨S2x16x128x256, .i1⟩
  | .hbm, ⟨39, _⟩ => ⟨S2x16x128x256, .f32⟩
  | .hbm, ⟨40, _⟩ => ⟨S2x16x128x256, .f32⟩
  | .hbm, ⟨41, _⟩ => ⟨S2x16x128x256, .f32⟩
  | .hbm, ⟨42, _⟩ => ⟨S2x8x2x128x256, .f32⟩
  | .hbm, ⟨43, _⟩ => ⟨S2x8x256x2x128, .f32⟩
  | .hbm, ⟨44, _⟩ => ⟨S2x8x256x256, .f32⟩
  | .hbm, ⟨45, _⟩ => ⟨S1024x1024, .bf16⟩
  | .hbm, ⟨46, _⟩ => ⟨S1024x2x11x256, .f32⟩
  | .hbm, ⟨47, _⟩ => ⟨S1024x11x2x256, .f32⟩
  | .hbm, ⟨48, _⟩ => ⟨S1024x5632, .f32⟩
  | .hbm, ⟨49, _⟩ => ⟨S1024x5632, .bf16⟩
  | .hbm, ⟨50, _⟩ => ⟨S2816x1024, .bf16⟩
  | .hbm, ⟨51, _⟩ => ⟨S1x1024, .f32⟩
  | .hbm, ⟨52, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S128x512, .f32⟩
  | .local _ .vmem, ⟨3, _⟩ => ⟨S128x512, .f32⟩
  | .local _ .vmem, ⟨4, _⟩ => ⟨S512x512, .f32⟩
  | .local _ .vmem, ⟨5, _⟩ => ⟨S512x512, .f32⟩
  | .local _ .vmem, ⟨6, _⟩ => ⟨S1x256x128, .f32⟩
  | .local _ .vmem, ⟨7, _⟩ => ⟨S1x256x128, .f32⟩
  | .local _ .vmem, ⟨8, _⟩ => ⟨S1x256x512, .f32⟩
  | .local _ .vmem, ⟨9, _⟩ => ⟨S1x256x512, .f32⟩
  | .local _ .vmem, ⟨10, _⟩ => ⟨S2x8x256x256, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1024x5632, .bf16⟩
  | .local _ .vmem, ⟨16, _⟩ => ⟨S2816x1024, .bf16⟩
  | .local _ .vmem, ⟨17, _⟩ => ⟨S512x1024, .f32⟩
  | .local _ .vmem, ⟨18, _⟩ => ⟨S512x1024, .f32⟩
  | .local _ .vmem, ⟨19, _⟩ => ⟨S512x2816, .bf16⟩
  | .local _ .vmem, ⟨20, _⟩ => ⟨S2x512x1024, .bf16⟩
  | .local _ .smem, ⟨0, _⟩ => ⟨S16, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![65], ![false]⟩

def k0_off1 (i : grid0.Coords) : Fin 3 → Nat :=
  let c1_i32_5 : BitVec 32 := 1#32
  let arg0 : BitVec 32 := BitVec.ofNat 32 (i 0).val
  let c2_i32 : BitVec 32 := 2#32
  let v3 : BitVec 32 := Scalar.remsi arg0 c2_i32
  let v56 : BitVec 32 := Scalar.subi c1_i32_5 v3
  let v57 : Index := Scalar.indexCast v56
  let c0_6 : Index := 0#32
  let c0_7 : Index := 0#32
  ![v57.toNat, 0, 0]
def k0_off2 (i : grid0.Coords) : Fin 4 → Nat :=
  let arg0 : BitVec 32 := BitVec.ofNat 32 (i 0).val
  let c63_i32 : BitVec 32 := 63#32
  let v4 : BitVec 32 := Scalar.minsi arg0 c63_i32
  let c8_i32 : BitVec 32 := 8#32
  let v5 : BitVec 32 := Scalar.remsi v4 c8_i32
  let c0_i32_1 : BitVec 32 := 0#32
  let v6 : BitVec 1 := Scalar.cmpi .eq v5 c0_i32_1
  let c0_i32_2 : BitVec 32 := 0#32
  let c1_i32 : BitVec 32 := 1#32
  let v54 : BitVec 32 := Scalar.select v6 c0_i32_2 c1_i32
  let v99 : Index := Scalar.indexCast v54
  let c0_32 : Index := 0#32
  let c0_33 : Index := 0#32
  let c0_34 : Index := 0#32
  ![v99.toNat, 0, 0, 0]
def k0_off3 (i : grid0.Coords) : Fin 4 → Nat :=
  let arg0 : BitVec 32 := BitVec.ofNat 32 (i 0).val
  let c63_i32 : BitVec 32 := 63#32
  let v4 : BitVec 32 := Scalar.minsi arg0 c63_i32
  let c8_i32 : BitVec 32 := 8#32
  let v5 : BitVec 32 := Scalar.remsi v4 c8_i32
  let c0_i32_1 : BitVec 32 := 0#32
  let v6 : BitVec 1 := Scalar.cmpi .eq v5 c0_i32_1
  let c0_i32_2 : BitVec 32 := 0#32
  let c1_i32 : BitVec 32 := 1#32
  let v54 : BitVec 32 := Scalar.select v6 c0_i32_2 c1_i32
  let v109 : Index := Scalar.indexCast v54
  let c1_38 : Index := 1#32
  let c0_39 : Index := 0#32
  let c0_40 : Index := 0#32
  ![v109.toNat, 1, 0, 0]
def k0_off4 (i : grid0.Coords) : Fin 4 → Nat :=
  let arg0 : BitVec 32 := BitVec.ofNat 32 (i 0).val
  let c63_i32 : BitVec 32 := 63#32
  let v4 : BitVec 32 := Scalar.minsi arg0 c63_i32
  let c8_i32 : BitVec 32 := 8#32
  let v5 : BitVec 32 := Scalar.remsi v4 c8_i32
  let c0_i32_1 : BitVec 32 := 0#32
  let v6 : BitVec 1 := Scalar.cmpi .eq v5 c0_i32_1
  let c0_i32_2 : BitVec 32 := 0#32
  let c1_i32 : BitVec 32 := 1#32
  let v54 : BitVec 32 := Scalar.select v6 c0_i32_2 c1_i32
  let v132 : Index := Scalar.indexCast v54
  let c2_53 : Index := 2#32
  let c0_54 : Index := 0#32
  let c0_55 : Index := 0#32
  ![v132.toNat, 2, 0, 0]
def k0_off5 (i : grid0.Coords) : Fin 4 → Nat :=
  let arg0 : BitVec 32 := BitVec.ofNat 32 (i 0).val
  let c63_i32 : BitVec 32 := 63#32
  let v4 : BitVec 32 := Scalar.minsi arg0 c63_i32
  let c8_i32 : BitVec 32 := 8#32
  let v5 : BitVec 32 := Scalar.remsi v4 c8_i32
  let c0_i32_1 : BitVec 32 := 0#32
  let v6 : BitVec 1 := Scalar.cmpi .eq v5 c0_i32_1
  let c0_i32_2 : BitVec 32 := 0#32
  let c1_i32 : BitVec 32 := 1#32
  let v54 : BitVec 32 := Scalar.select v6 c0_i32_2 c1_i32
  let v142 : Index := Scalar.indexCast v54
  let c3_59 : Index := 3#32
  let c0_60 : Index := 0#32
  let c0_61 : Index := 0#32
  ![v142.toNat, 3, 0, 0]
def k0_off6 (i : grid0.Coords) : Fin 4 → Nat :=
  let arg0 : BitVec 32 := BitVec.ofNat 32 (i 0).val
  let c63_i32 : BitVec 32 := 63#32
  let v4 : BitVec 32 := Scalar.minsi arg0 c63_i32
  let c8_i32 : BitVec 32 := 8#32
  let v5 : BitVec 32 := Scalar.remsi v4 c8_i32
  let c0_i32_1 : BitVec 32 := 0#32
  let v6 : BitVec 1 := Scalar.cmpi .eq v5 c0_i32_1
  let c0_i32_2 : BitVec 32 := 0#32
  let c1_i32 : BitVec 32 := 1#32
  let v54 : BitVec 32 := Scalar.select v6 c0_i32_2 c1_i32
  let v165 : Index := Scalar.indexCast v54
  let c4_75 : Index := 4#32
  let c0_76 : Index := 0#32
  let c0_77 : Index := 0#32
  ![v165.toNat, 4, 0, 0]
def k0_off7 (i : grid0.Coords) : Fin 4 → Nat :=
  let arg0 : BitVec 32 := BitVec.ofNat 32 (i 0).val
  let c63_i32 : BitVec 32 := 63#32
  let v4 : BitVec 32 := Scalar.minsi arg0 c63_i32
  let c8_i32 : BitVec 32 := 8#32
  let v5 : BitVec 32 := Scalar.remsi v4 c8_i32
  let c0_i32_1 : BitVec 32 := 0#32
  let v6 : BitVec 1 := Scalar.cmpi .eq v5 c0_i32_1
  let c0_i32_2 : BitVec 32 := 0#32
  let c1_i32 : BitVec 32 := 1#32
  let v54 : BitVec 32 := Scalar.select v6 c0_i32_2 c1_i32
  let v175 : Index := Scalar.indexCast v54
  let c5_81 : Index := 5#32
  let c0_82 : Index := 0#32
  let c0_83 : Index := 0#32
  ![v175.toNat, 5, 0, 0]
def k0_off8 (i : grid0.Coords) : Fin 4 → Nat :=
  let arg0 : BitVec 32 := BitVec.ofNat 32 (i 0).val
  let c63_i32 : BitVec 32 := 63#32
  let v4 : BitVec 32 := Scalar.minsi arg0 c63_i32
  let c8_i32 : BitVec 32 := 8#32
  let v5 : BitVec 32 := Scalar.remsi v4 c8_i32
  let c0_i32_1 : BitVec 32 := 0#32
  let v6 : BitVec 1 := Scalar.cmpi .eq v5 c0_i32_1
  let c0_i32_2 : BitVec 32 := 0#32
  let c1_i32 : BitVec 32 := 1#32
  let v54 : BitVec 32 := Scalar.select v6 c0_i32_2 c1_i32
  let v198 : Index := Scalar.indexCast v54
  let c6_96 : Index := 6#32
  let c0_97 : Index := 0#32
  let c0_98 : Index := 0#32
  ![v198.toNat, 6, 0, 0]
def k0_off9 (i : grid0.Coords) : Fin 4 → Nat :=
  let arg0 : BitVec 32 := BitVec.ofNat 32 (i 0).val
  let c63_i32 : BitVec 32 := 63#32
  let v4 : BitVec 32 := Scalar.minsi arg0 c63_i32
  let c8_i32 : BitVec 32 := 8#32
  let v5 : BitVec 32 := Scalar.remsi v4 c8_i32
  let c0_i32_1 : BitVec 32 := 0#32
  let v6 : BitVec 1 := Scalar.cmpi .eq v5 c0_i32_1
  let c0_i32_2 : BitVec 32 := 0#32
  let c1_i32 : BitVec 32 := 1#32
  let v54 : BitVec 32 := Scalar.select v6 c0_i32_2 c1_i32
  let v208 : Index := Scalar.indexCast v54
  let c7_102 : Index := 7#32
  let c0_103 : Index := 0#32
  let c0_104 : Index := 0#32
  ![v208.toNat, 7, 0, 0]
def k0_off10 (i : grid0.Coords) : Fin 3 → Nat :=
  let arg0 : BitVec 32 := BitVec.ofNat 32 (i 0).val
  let c2_i32 : BitVec 32 := 2#32
  let v3 : BitVec 32 := Scalar.remsi arg0 c2_i32
  let v377 : Index := Scalar.indexCast v3
  let c0_137 : Index := 0#32
  let c0_138 : Index := 0#32
  ![v377.toNat, 0, 0]
def k0_off11 (i : grid0.Coords) : Fin 3 → Nat :=
  let arg0 : BitVec 32 := BitVec.ofNat 32 (i 0).val
  let c2_i32 : BitVec 32 := 2#32
  let v3 : BitVec 32 := Scalar.remsi arg0 c2_i32
  let v683 : Index := Scalar.indexCast v3
  let c128_277 : Index := 128#32
  let c0_278 : Index := 0#32
  ![v683.toNat, 128, 0]
def k0_off12 (i : grid0.Coords) : Fin 3 → Nat :=
  let arg0 : BitVec 32 := BitVec.ofNat 32 (i 0).val
  let c2_i32 : BitVec 32 := 2#32
  let v3 : BitVec 32 := Scalar.remsi arg0 c2_i32
  let v989 : Index := Scalar.indexCast v3
  let c256_417 : Index := 256#32
  let c0_418 : Index := 0#32
  ![v989.toNat, 256, 0]
def k0_off13 (i : grid0.Coords) : Fin 3 → Nat :=
  let arg0 : BitVec 32 := BitVec.ofNat 32 (i 0).val
  let c2_i32 : BitVec 32 := 2#32
  let v3 : BitVec 32 := Scalar.remsi arg0 c2_i32
  let v1295 : Index := Scalar.indexCast v3
  let c384_557 : Index := 384#32
  let c0_558 : Index := 0#32
  ![v1295.toNat, 384, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.muli v28 c4_i32
  let c1_i32_11 : BitVec 32 := 1#32
  let v30 : BitVec 32 := Scalar.subi v29 c1_i32_11
  let c0_i32_12 : BitVec 32 := 0#32
  let v31 : BitVec 32 := Scalar.maxsi v30 c0_i32_12
  let c0_i32_13 : BitVec 32 := 0#32
  let c0_i32_14 : BitVec 32 := 0#32
  ![v17.toNat, c0_i32_13.toNat, v31.toNat]

def cc0_transform_5 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S32768x1024 : Shape := ⟨2, ![32768, 1024]⟩
abbrev S8x4096x4x64 : Shape := ⟨4, ![8, 4096, 4, 64]⟩
abbrev S16x128x256 : Shape := ⟨3, ![16, 128, 256]⟩
abbrev S16 : Shape := ⟨1, ![16]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x32x128x4x4x64 : Shape := ⟨6, ![8, 32, 128, 4, 4, 64]⟩
abbrev S8x32x128x4x64 : Shape := ⟨5, ![8, 32, 128, 4, 64]⟩
abbrev S_ : Shape := ⟨0, ![]⟩
abbrev S8x33x128x4x64 : Shape := ⟨5, ![8, 33, 128, 4, 64]⟩
abbrev S8x32x256x4x64 : Shape := ⟨5, ![8, 32, 256, 4, 64]⟩
abbrev S256 : Shape := ⟨1, ![256]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S8x32x4x256x128x4 : Shape := ⟨6, ![8, 32, 4, 256, 128, 4]⟩
abbrev S8x32x4x4x128x256 : Shape := ⟨6, ![8, 32, 4, 4, 128, 256]⟩
abbrev S4x4x128x256 : Shape := ⟨4, ![4, 4, 128, 256]⟩
abbrev S1x1x4x4x128x256 : Shape := ⟨6, ![1, 1, 4, 4, 128, 256]⟩
abbrev S1x32x1x1x128x256 : Shape := ⟨6, ![1, 32, 1, 1, 128, 256]⟩
abbrev S4x4 : Shape := ⟨2, ![4, 4]⟩
abbrev S4x4x1x1 : Shape := ⟨4, ![4, 4, 1, 1]⟩
abbrev S8x32x4x4x128 : Shape := ⟨5, ![8, 32, 4, 4, 128]⟩
abbrev S8x32x4x4x128x1 : Shape := ⟨6, ![8, 32, 4, 4, 128, 1]⟩
abbrev S1x1x4x4x1x1 : Shape := ⟨6, ![1, 1, 4, 4, 1, 1]⟩
abbrev S8x32x4x64x4x128 : Shape := ⟨6, ![8, 32, 4, 64, 4, 128]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 129
  | .vmem => 0
  | .smem => 0
  | _ => 0

abbrev hbmTy0_0 (i : Nat) : BufTy := match i % 128 with
  | 0 => ⟨S32768x1024, .f32⟩
  | 1 => ⟨S32768x1024, .bf16⟩
  | 2 => ⟨S8x4096x4x64, .f32⟩
  | 3 => ⟨S8x4096x4x64, .f32⟩
  | 4 => ⟨S16x128x256, .f32⟩
  | 5 => ⟨S16, .f32⟩
  | 6 => ⟨S1024x1024, .f32⟩
  | 7 => ⟨S1024, .f32⟩
  | 8 => ⟨S1024x5632, .f32⟩
  | 9 => ⟨S2816x1024, .f32⟩
  | 10 => ⟨S32768x1024, .f32⟩
  | 11 => ⟨S8x32x128x4x4x64, .f32⟩
  | 12 => ⟨S8x32x128x4x64, .f32⟩
  | 13 => ⟨S_, .i32⟩
  | 14 => ⟨S_, .f32⟩
  | 15 => ⟨S8x33x128x4x64, .f32⟩
  | 16 => ⟨S8x32x128x4x64, .f32⟩
  | 17 => ⟨S8x32x256x4x64, .f32⟩
  | 18 => ⟨S8x32x128x4x64, .f32⟩
  | 19 => ⟨S_, .i32⟩
  | 20 => ⟨S_, .f32⟩
  | 21 => ⟨S8x33x128x4x64, .f32⟩
  | 22 => ⟨S8x32x128x4x64, .f32⟩
  | 23 => ⟨S8x32x256x4x64, .f32⟩
  | 24 => ⟨S256, .i32⟩
  | 25 => ⟨S128, .i32⟩
  | 26 => ⟨S_, .i32⟩
  | 27 => ⟨S128, .i32⟩
  | 28 => ⟨S128, .i32⟩
  | 29 => ⟨S128x1, .i32⟩
  | 30 => ⟨S1x256, .i32⟩
  | 31 => ⟨S128x256, .i32⟩
  | 32 => ⟨S128x256, .i32⟩
  | 33 => ⟨S128x256, .i32⟩
  | 34 => ⟨S_, .i32⟩
  | 35 => ⟨S128x256, .i32⟩
  | 36 => ⟨S128x256, .i1⟩
  | 37 => ⟨S_, .i32⟩
  | 38 => ⟨S128x256, .i32⟩
  | 39 => ⟨S128x256, .i1⟩
  | 40 => ⟨S128x256, .i1⟩
  | 41 => ⟨S32, .i32⟩
  | 42 => ⟨S_, .i32⟩
  | 43 => ⟨S32, .i32⟩
  | 44 => ⟨S32, .i1⟩
  | 45 => ⟨S32x1x1, .i1⟩
  | 46 => ⟨S_, .i32⟩
  | 47 => ⟨S256, .i32⟩
  | 48 => ⟨S256, .i1⟩
  | 49 => ⟨S1x1x256, .i1⟩
  | 50 => ⟨S32x1x256, .i1⟩
  | 51 => ⟨S32x1x256, .i1⟩
  | 52 => ⟨S32x1x256, .i1⟩
  | 53 => ⟨S1x128x256, .i1⟩
  | 54 => ⟨S32x128x256, .i1⟩
  | 55 => ⟨S32x128x256, .i1⟩
  | 56 => ⟨S32x128x256, .i1⟩
  | 57 => ⟨S8x32x4x256x128x4, .f32⟩
  | 58 => ⟨S8x32x4x4x128x256, .f32⟩
  | 59 => ⟨S4x4x128x256, .f32⟩
  | 60 => ⟨S1x1x4x4x128x256, .f32⟩
  | 61 => ⟨S8x32x4x4x128x256, .f32⟩
  | 62 => ⟨S8x32x4x4x128x256, .f32⟩
  | 63 => ⟨S1x32x1x1x128x256, .i1⟩
  | 64 => ⟨S_, .f32⟩
  | 65 => ⟨S_, .f32⟩
  | 66 => ⟨S8x32x4x4x128x256, .i1⟩
  | 67 => ⟨S8x32x4x4x128x256, .f32⟩
  | 68 => ⟨S8x32x4x4x128x256, .f32⟩
  | 69 => ⟨S4x4, .f32⟩
  | 70 => ⟨S4x4x1x1, .f32⟩
  | 71 => ⟨S_, .f32⟩
  | 72 => ⟨S8x32x4x4x128, .f32⟩
  | 73 => ⟨S8x32x4x4x128x1, .f32⟩
  | 74 => ⟨S1x1x4x4x1x1, .f32⟩
  | 75 => ⟨S8x32x4x4x128x1, .f32⟩
  | 76 => ⟨S8x32x4x4x128x1, .f32⟩
  | 77 => ⟨S8x32x4x4x128x256, .f32⟩
  | 78 => ⟨S8x32x4x4x128x256, .f32⟩
  | 79 => ⟨S8x32x4x4x128x256, .f32⟩
  | 80 => ⟨S_, .f32⟩
  | 81 => ⟨S8x32x4x4x128, .f32⟩
  | 82 => ⟨S8x32x4x4x128x1, .f32⟩
  | 83 => ⟨S1x1x4x4x1x1, .f32⟩
  | 84 => ⟨S8x32x4x4x128x1, .f32⟩
  | 85 => ⟨S8x32x4x4x128x1, .f32⟩
  | 86 => ⟨S8x32x4x4x128x1, .f32⟩
  | 87 => ⟨S8x32x4x4x128x1, .f32⟩
  | 88 => ⟨S8x32x4x4x128x256, .f32⟩
  | 89 => ⟨S8x32x4x4x128x256, .f32⟩
  | 90 => ⟨S8x32x4x64x4x128, .f32⟩
  | 91 => ⟨S8x32x128x4x4x64, .f32⟩
  | 92 => ⟨S32768x1024, .f32⟩
  | 93 => ⟨S32768x1024, .f32⟩
  | 94 => ⟨S32768x1024, .f32⟩
  | 95 => ⟨S32768x1024, .f32⟩
  | 96 => ⟨S_, .f32⟩
  | 97 => ⟨S32768, .f32⟩
  | 98 => ⟨S32768x1, .f32⟩
  | 99 => ⟨S_, .f32⟩
  | 100 => ⟨S32768x1, .f32⟩
  | 101 => ⟨S32768x1, .f32⟩
  | 102 => ⟨S_, .f32⟩
  | 103 => ⟨S32768x1, .f32⟩
  | 104 => ⟨S32768x1, .f32⟩
  | 105 => ⟨S32768x1, .f32⟩
  | 106 => ⟨S32768x1024, .f32⟩
  | 107 => ⟨S32768x1024, .f32⟩
  | 108 => ⟨S1x1024, .f32⟩
  | 109 => ⟨S32768x1024, .f32⟩
  | 110 => ⟨S32768x1024, .f32⟩
  | 111 => ⟨S32768x5632, .f32⟩
  | 112 => ⟨S32768x2816, .f32⟩
  | 113 => ⟨S32768x2816, .f32⟩
  | 114 => ⟨S32768x2816, .f32⟩
  | 115 => ⟨S32768x2816, .f32⟩
  | 116 => ⟨S_, .f32⟩
  | 117 => ⟨S32768x2816, .f32⟩
  | 118 => ⟨S32768x2816, .f32⟩
  | 119 => ⟨S_, .f32⟩
  | 120 => ⟨S32768x2816, .f32⟩
  | 121 => ⟨S32768x2816, .f32⟩
  | 122 => ⟨S32768x2816, .f32⟩
  | 123 => ⟨S32768x2816, .f32⟩
  | 124 => ⟨S32768x1024, .f32⟩
  | 125 => ⟨S_, .f32⟩
  | 126 => ⟨S32768x1024, .f32⟩
  | 127 => ⟨S32768x1024, .f32⟩
  | _ => ⟨S32768x1024, .f32⟩

abbrev hbmTy0_1 (i : Nat) : BufTy := match i % 128 with
  | 0 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_7 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_8 : Ref sig .tc := ⟨.hbm, 96, rfl⟩
abbrev main_v71 : Ref sig .tc := ⟨.hbm, 97, rfl⟩
abbrev main_v72 : Ref sig .tc := ⟨.hbm, 98, rfl⟩
abbrev main_cst_9 : Ref sig .tc := ⟨.hbm, 99, rfl⟩
abbrev main_v73 : Ref sig .tc := ⟨.hbm, 100, rfl⟩
abbrev main_v74 : Ref sig .tc := ⟨.hbm, 101, rfl⟩
abbrev main_cst_10 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_11 : Ref sig .tc := ⟨.hbm, 116, rfl⟩
abbrev main_v88 : Ref sig .tc := ⟨.hbm, 117, rfl⟩
abbrev main_v89 : Ref sig .tc := ⟨.hbm, 118, rfl⟩
abbrev main_cst_12 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_13 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1024x2x11x256 : Shape := ⟨4, ![1024, 2, 11, 256]⟩
abbrev S1024x11x2x256 : Shape := ⟨4, ![1024, 11, 2, 256]⟩
abbrev S1x1024 : Shape := ⟨2, ![1, 1024]⟩
abbrev S1024x1024 : Shape := ⟨2, ![1024, 1024]⟩
abbrev S1024x2816 : Shape := ⟨2, ![1024, 2816]⟩
abbrev S1024x1 : Shape := ⟨2, ![1024, 1]⟩
abbrev S1024x256 : Shape := ⟨2, ![1024, 256]⟩

abbrev nBuf : Space → Nat
  | .hbm => 11
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x2x11x256, .f32⟩
  | .hbm, ⟨5, _⟩ => ⟨S1024x11x2x256, .f32⟩
  | .hbm, ⟨6, _⟩ => ⟨S1024x5632, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proj.lean ====
abbrev S8x4096x1024 : Shape := ⟨3, ![8, 4096, 1024]⟩
abbrev S1024 : Shape := ⟨1, ![1024]⟩
abbrev S1024x3080 : Shape := ⟨2, ![1024, 3080]⟩
abbrev S8 : Shape := ⟨1, ![8]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S1x128 : Shape := ⟨2, ![1, 128]⟩
abbrev S2 : Shape := ⟨1, ![2]⟩
abbrev S1024x3072 : Shape := ⟨2, ![1024, 3072]⟩
abbrev S32768x1024 : Shape := ⟨2, ![32768, 1024]⟩
abbrev S1x1024 : Shape := ⟨2, ![1, 1024]⟩
abbrev S32768x512 : Shape := ⟨2, ![32768, 512]⟩
abbrev S32768x128 : Shape := ⟨2, ![32768, 128]⟩
abbrev S8x8x4096 : Shape := ⟨3, ![8, 8, 4096]⟩
abbrev S1024x1024 : Shape := ⟨2, ![1024, 1024]⟩
abbrev S1024x512 : Shape := ⟨2, ![1024, 512]⟩
abbrev S1x8x1024 : Shape := ⟨3, ![1, 8, 1024]⟩
abbrev S1024x1 : Shape := ⟨2, ![1024, 1]⟩
abbrev S128x128 : Shape := ⟨2, ![128, 128]⟩
abbrev S1024x256 : Shape := ⟨2, ![1024, 256]⟩
abbrev S128x256 : Shape := ⟨2, ![128, 256]⟩
abbrev S128x1024 : Shape := ⟨2, ![128, 1024]⟩
abbrev S4x1024 : Shape := ⟨2, ![4, 1024]⟩
abbrev S8x1024 : Shape := ⟨2, ![8, 1024]⟩

abbrev nBuf : Space → Nat
  | .hbm => 29
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3080, .f32⟩
  | .hbm, ⟨3, _⟩ => ⟨S8, .f32⟩
  | .hbm, ⟨4, _⟩ => ⟨S_, .bf16⟩
  | .hbm, ⟨5, _⟩ => ⟨S1024x128, .bf16⟩
  | .hbm, ⟨6, _⟩ => ⟨S1024x8, .f32⟩
  | .hbm, ⟨7, _⟩ => ⟨S1024x8, .bf16⟩
  | .hbm, ⟨8, _⟩ => ⟨S_, .i32⟩
  | .hbm, ⟨9, _⟩ => ⟨S1, .i32⟩
  | .hbm, ⟨10, _⟩ => ⟨S1024x128, .bf16⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1x128, .f32⟩
  | .hbm, ⟨19, _⟩ => ⟨S1024x3072, .f32⟩
  | .hbm, ⟨20, _⟩ => ⟨S1024x3072, .bf16⟩
  | .hbm, ⟨21, _⟩ => ⟨S32768x1024, .f32⟩
  | .hbm, ⟨22, _⟩ => ⟨S1x1024, .f32⟩
  | .hbm, ⟨23, _⟩ => ⟨S32768x512, .bf16⟩
  | .hbm, ⟨24, _⟩ => ⟨S32768x512, .bf16⟩
  | .hbm, ⟨25, _⟩ => ⟨S32768x1024, .bf16⟩
  | .hbm, ⟨26, _⟩ => ⟨S32768x1024, .bf16⟩
  | .hbm, ⟨27, _⟩ => ⟨S32768x128, .f32⟩
  | .hbm, ⟨28, _⟩ => ⟨S8x8x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x128, .f32⟩
  | .local _ .vmem, ⟨15, _⟩ => ⟨S1024x128, .f32⟩
  | .local _ .vmem, ⟨16, _⟩ => ⟨S1x8x1024, .f32⟩
  | .local _ .vmem, ⟨17, _⟩ => ⟨S1x8x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjRefIdeal.lean ====
abbrev S8x4096x1024 : Shape := ⟨3, ![8, 4096, 1024]⟩
abbrev S1024 : Shape := ⟨1, ![1024]⟩
abbrev S1024x3080 : Shape := ⟨2, ![1024, 3080]⟩
abbrev S8 : Shape := ⟨1, ![8]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩
abbrev S32768x3080 : Shape := ⟨2, ![32768, 3080]⟩
abbrev S32768x512 : Shape := ⟨2, ![32768, 512]⟩
abbrev S32768x8 : Shape := ⟨2, ![32768, 8]⟩
abbrev S1x8 : Shape := ⟨2, ![1, 8]⟩
abbrev S32768x4 : Shape := ⟨2, ![32768, 4]⟩
abbrev S256x128x4 : Shape := ⟨3, ![256, 128, 4]⟩
abbrev S32768x128 : Shape := ⟨2, ![32768, 128]⟩
abbrev S8x4096x8 : Shape := ⟨3, ![8, 4096, 8]⟩
abbrev S8x8x4096 : Shape := ⟨3, ![8, 8, 4096]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3080, .f32⟩
  | .hbm, ⟨3, _⟩ => ⟨S8, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S32768x1024, .f32⟩
  | .hbm, ⟨21, _⟩ => ⟨S32768x3080, .f32⟩
  | .hbm, ⟨22, _⟩ => ⟨S32768x512, .f32⟩
  | .hbm, ⟨23, _⟩ => ⟨S32768x512, .f32⟩
  | .hbm, ⟨24, _⟩ => ⟨S32768x1024, .f32⟩
  | .hbm, ⟨25, _⟩ => ⟨S32768x1024, .f32⟩
  | .hbm, ⟨26, _⟩ => ⟨S32768x8, .f32⟩
  | .hbm, ⟨27, _⟩ => ⟨S1x8, .f32⟩
  | .hbm, ⟨28, _⟩ => ⟨S32768x8, .f32⟩
  | .hbm, ⟨29, _⟩ => ⟨S32768x8, .f32⟩
  | .hbm, ⟨30, _⟩ => ⟨S32768x4, .f32⟩
  | .hbm, ⟨31, _⟩ => ⟨S32768x4, .f32⟩
  | .hbm, ⟨32, _⟩ => ⟨S32768x4, .f32⟩
  | .hbm, ⟨33, _⟩ => ⟨S_, .f32⟩
  | .hbm, ⟨34, _⟩ => ⟨S32768x4, .f32⟩
  | .hbm, ⟨35, _⟩ => ⟨S32768x4, .f32⟩
  | .hbm, ⟨36, _⟩ => ⟨S32768x4, .f32⟩
  | .hbm, ⟨37, _⟩ => ⟨S32768x4, .f32⟩
  | .hbm, ⟨38, _⟩ => ⟨S32768x4, .i1⟩
  | .hbm, ⟨39, _⟩ => ⟨S32768x4, .f32⟩
  | .hbm, ⟨40, _⟩ => ⟨S32768x4, .f32⟩
  | .hbm, ⟨41, _⟩ => ⟨S32768x4, .f32⟩
  | .hbm, ⟨42, _⟩ => ⟨S32768x4, .f32⟩
  | .hbm, ⟨43, _⟩ => ⟨S32768x4, .f32⟩
  | .hbm, ⟨44, _⟩ => ⟨S32768x4, .f32⟩
  | .hbm, ⟨45, _⟩ => ⟨S32768x4, .f32⟩
  | .hbm, ⟨46, _⟩ => ⟨S32768x4, .f32⟩
  | .hbm, ⟨47, _⟩ => ⟨S32768x4, .f32⟩
  | .hbm, ⟨48, _⟩ => ⟨S256x128x4, .f32⟩
  | .hbm, ⟨49, _⟩ => ⟨S_, .f32⟩
  | .hbm, ⟨50, _⟩ => ⟨S_, .f32⟩
  | .hbm, ⟨51, _⟩ => ⟨S256x128x4, .f32⟩
  | .hbm, ⟨52, _⟩ => ⟨S32768x4, .f32⟩
  | .hbm, ⟨53, _⟩ => ⟨S32768x8, .f32⟩
  | .hbm, ⟨54, _⟩ => ⟨S_, .i32⟩
  | .hbm, ⟨55, _⟩ => ⟨S_, .f32⟩
  | .hbm, ⟨56, _⟩ => ⟨S32768x128, .f32⟩
  | .hbm, ⟨57, _⟩ => ⟨S32768x4, .f32⟩
  | .hbm, ⟨58, _⟩ => ⟨S32768x8, .f32⟩
  | .hbm, ⟨59, _⟩ => ⟨S8x4096x8, .f32⟩
  | .hbm, ⟨60, _⟩ => ⟨S8x8x4096, .f32⟩
  | .hbm, ⟨61, _⟩ => ⟨S_, .f32⟩
  | .hbm, ⟨62, _⟩ => ⟨S32768x512, .f32⟩
  | .hbm, ⟨63, _⟩ => ⟨S32768x512, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768x1024, .f32⟩
  | .hbm, ⟨68, _⟩ => ⟨S32768x1024, .f32⟩
  | .hbm, ⟨69, _⟩ => ⟨S_, .f32⟩
  | .hbm, ⟨70, _⟩ => ⟨S32768x1024, .f32⟩
  | .hbm, ⟨71, _⟩ => ⟨S32768x1024, .f32⟩
  | .hbm, ⟨72, _⟩ => ⟨S32768x512, .bf16⟩
  | .hbm, ⟨73, _⟩ => ⟨S32768x512, .bf16⟩
  | .hbm, ⟨74, _⟩ => ⟨S32768x1024, .bf16⟩
  | .hbm, ⟨75, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v25 : Ref sig .tc := ⟨.hbm, 47, rfl⟩
abbrev main_v26 : Ref sig .tc := ⟨.hbm, 48, rfl⟩
abbrev main_call1_call0_cst : Ref sig .tc := ⟨.hbm, 49, rfl⟩
abbrev main_call1_call0_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c : Ref sig .tc := ⟨.hbm, 54, rfl⟩
abbrev main_call2_v0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_3 : Ref sig .tc := ⟨.hbm, 66, rfl⟩
abbrev main_v39 : Ref sig .tc := ⟨.hbm, 67, rfl⟩
abbrev main_v40 : Ref sig .tc := ⟨.hbm, 68, rfl⟩
abbrev main_cst_4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== Proof.Spec.lean ====
/- The mathematics of the two calls, over the extended reals and plain coordinates. -/
module

public import Idealize.ShloMosaic.PureOps.Ideal.Laws

@[expose] public section

noncomputable section

namespace Cert.Spec

open Idealize.ShloMosaic

/-- RMS normalisation of a row `y` with gains `g`, at coordinate `d`. -/
def rms (y g : Fin 1024 → EReal) (d : Fin 1024) : EReal :=
  y d * Ideal.rsqrt (Ideal.div (∑ e, y e * y e) (Ideal.ofBits .f32 0x44800000#32) + Ideal.ofBits .f32 0x358637BD#32) * g d

/-- The gated unit: `gate * logistic gate * up` of a row `u` against a gate column and an up column. -/
def act (u wg wu : Fin 1024 → EReal) : EReal :=
  (∑ d, u d * wg d) * Ideal.logistic (∑ d, u d * wg d) * ∑ d, u d * wu d

/-- The feed-forward residual: `y + half * (act (rms y) W) Wd`, with gate columns `wg f` and up columns `wu f`. -/
def ffn (y g : Fin 1024 → EReal) (wg wu : Fin 2816 → Fin 1024 → EReal) (wd : Fin 2816 → Fin 1024 → EReal)
    (j : Fin 1024) : EReal :=
  y j + Ideal.ofBits .f32 0x3F000000#32 * ∑ f, act (rms y g) (wg f) (wu f) * wd f j

/-- Where the gate column `f` lies among the interleaved columns. -/
def gateCol (f : Fin 2816) : Fin 5632 := ⟨512 * (f / 256) + f % 256, by omega⟩

/-- Where the up column `f` lies among the interleaved columns. -/
def upCol (f : Fin 2816) : Fin 5632 := ⟨512 * (f / 256) + 256 + f % 256, by omega⟩

/-- The gate column `f` of the weights as given: gates first, then ups. -/
def gateSrc (f : Fin 2816) : Fin 5632 := ⟨f, by omega⟩

/-- The up column `f` of the weights as given. -/
def upSrc (f : Fin 2816) : Fin 5632 := ⟨2816 + f, by omega⟩

end Cert.Spec
end
-- ==== Proof.FfnBlock.lean ====
/- The feed-forward call: what one grid point leaves in its result block. -/
module

public import proofs.«01_k».proof.Proof.Gen.FfnIdeal.Value
public import proofs.«01_k».proof.Proof.Spec
public import Idealize.ShloMosaic.Lib.ValueIdx
public import Idealize.ShloMosaic.Lib.Pipeline.ValueKit.Point
public import Idealize.ShloMosaic.Lib.Tactic

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.Spec

theorem hz : (![0, 0] : Fin 2 → Nat) = fun _ => 0 := funext fun a => by fin_cases a <;> rfl

/-- The activations of a block: what the scratch holds before the second product. -/
def acts (y : Vec Ideal S1024x1024 .f32) (g : Vec Ideal S1x1024 .f32) (w : Vec Ideal S1024x5632 .bf16) :
    Vec Ideal S1024x2816 .bf16 := fun i =>
  act (rms (fun e => y (ix2 (i 0) e)) fun e => g (ix2 0 e))
    (fun d => w (ix2 d (gateCol (i 1)))) fun d => w (ix2 d (upCol (i 1)))

/-- A point leaves the residual plus half the product of the activations with the last weights. -/
theorem out_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x2816 .bf16) (harg6 : arg6.IsWhole)
    (x0 : Vec Ideal S1024x1024 .f32) (x1 : Vec Ideal S1x1024 .f32) (x2 : Vec Ideal S1024x5632 .bf16) (x3 : Vec Ideal S2816x1024 .bf16) :
    out0_A_4 c i arg1 harg1 arg2 harg2 arg3 harg3 arg4 harg4 arg5 harg5 arg6 harg6 x0 x1 x2 x3 =
      k0_pay3 x0 (acts x0 x1 x2) x3 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_cons_unit_zero (S := S1024x1024) hz]
  simp only [View.readAt_eq_ld, harg1.read_unread, harg2.read_unread, harg3.read_unread, harg4.read_unread,
    View.ld_unit_zero (S := S1024x1024) hz, View.ld_unit_zero (S := S1x1024) hz, View.ld_unit_zero (S := S2816x1024) hz]
  rw [View.readCov_unit_zero (S := S1024x1024) _ hz]
  congr 1
  rw [View.readCov_eq_canon_ld _ _ _ (View.cover_of_tiledL _ ![1024, 256] (by rfl)), View.ld_unit_zero (S := S1024x2816) hz]
  funext y
  canon_tiles x h
  all_goals open_payloads
  all_goals pointwise [acts, act, rms, k0_pay4, k0_pay6, k0_pay7, k0_pay11, k0_pay14, k0_pay18, k0_pay19]
  all_goals reads_congr
  all_goals blk_ext! [gateCol, upCol]

end Cert.FfnIdeal.Hand
end
-- ==== Proof.FfnArray.lean ====
/- The feed-forward call: its result array over the argument arrays. -/
module

public import proofs.«01_k».proof.Proof.FfnBlock
public import Idealize.ShloMosaic.Lib.Claim

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.Spec

variable (m : (ℓ : Loc nD τ sig) → Buf (Elt Ideal) ℓ)

/-- The result array over the argument arrays. -/
def G (x : FVec Ideal S32768x1024 .f32) (g : FVec Ideal S1024 .f32) (w : FVec Ideal S1024x5632 .f32)
    (wd : FVec Ideal S2816x1024 .f32) : FVec Ideal S32768x1024 .f32 := fun i =>
  ffn (fun e => x (ix2 (i 0) e)) (fun e => g (ix1 e)) (fun f d => w (ix2 d (gateSrc f)))
    (fun f d => w (ix2 d (upSrc f))) (fun f j => wd (ix2 f j)) (i 1)

theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

theorem final (c : Dev nD) : (dats m 0 c).arrAt 4 cfg0.N
    = G (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]; unfold outsAt0
  rw [out_eq]
  pointwise [k0_pay3, acts, G, ffn, act, rms]
  blk_point [iblk, V, idx t, gateCol, upCol, gateSrc, upSrc]

end Cert.FfnIdeal.Hand
end
-- ==== Proof.FfnClaim.lean ====
/- The feed-forward call: the reference's array, and the claim. -/
module

public import proofs.«01_k».proof.Proof.FfnArray
public import proofs.«01_k».proof.Proof.Gen.FfnRefIdeal.Run
public import proofs.«01_k».proof.Proof.Gen.FfnRefIdeal.Read
public import proofs.«01_k».proof.Defs

@[expose] public section

set_option maxRecDepth 16384

noncomputable section

namespace Cert.FfnIdeal.Hand

open Cert.FfnIdeal Cert.FfnIdeal.Gen Idealize.ShloMosaic Idealize.ShloMosaic.TcCoe Idealize.SL.Sem
open Cert.Spec

open Cert.FfnRefIdeal.Read in
theorem ref_eq (x : FVec Ideal S32768x1024 .f32) (g : FVec Ideal S1024 .f32) (w : FVec Ideal S1024x5632 .f32)
    (wd : FVec Ideal S2816x1024 .f32) : val_main_v27 (F := Ideal) x g w wd = G x g w wd := by
  rw [← val_main_v27_eq]
  funext i
  pointwise [G, ffn, act, rms]
  rfl

/-- The feed-forward call computes the reference over the reals. -/
theorem claim : Cert.algebraic_FfnIdeal_FfnRefIdeal := by
  intro m g m' g' _ hagree
  refine ⟨fun c => G (m ((c : Thread nD τ).loc main_arg0)) (m ((c : Thread nD τ).loc main_arg1))
        (m ((c : Thread nD τ).loc main_arg2)) (m ((c : Thread nD τ).loc main_arg3)), ?_, ?_⟩
  · run_from Cert.FfnIdeal.Value.run_blocks m g
    exact final m _
  · run_from Cert.FfnRefIdeal.Value.run m' g'
    exact ref_eq _ _ _ _

end Cert.FfnIdeal.Hand
end
-- ==== Proof.ProjBlock.lean ====
/- The projections: what one grid point leaves in its result blocks, over the argument arrays. -/
module

public import proofs.«01_k».proof.Proof.Gen.ProjIdeal.Value
public import proofs.«01_k».proof.Proof.Spec
public import Idealize.ShloMosaic.Lib.ValueIdx
public import Idealize.ShloMosaic.Lib.Pipeline.ValueKit.Point
public import Idealize.ShloMosaic.Lib.Tactic
public import Idealize.ShloMosaic.Lib.Claim
public import Idealize.ShloMosaic.Lib.Routing.OpsPair

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)
open Cert.Spec

variable (m : (ℓ : Loc nD τ sig) → Buf (Elt Ideal) ℓ)

/-- Row `n` of the input. -/
def rowAt (x : FVec Ideal S8x4096x1024 .f32) (n : Fin 32768) (d : Fin 1024) : EReal :=
  x (ix3 ⟨n.val / 4096, by omega⟩ ⟨n.val % 4096, by omega⟩ d)

/-- Column `j` of the product of the normed row `n` with the weights. -/
def col (x : FVec Ideal S8x4096x1024 .f32) (g : FVec Ideal S1024 .f32) (w : FVec Ideal S1024x3080 .f32) (n : Fin 32768) (j : Fin 3080) : EReal :=
  ∑ d, rms (rowAt x n) (fun e => g (ix1 e)) d * w (ix2 d j)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val / 4, 0, t.val % 4] :=
  (by decide +kernel : ∀ t : Fin grid0.N, _)

theorem hz : (![0, 0] : Fin 2 → Nat) = fun _ => 0 := funext fun a => by fin_cases a <;> rfl

/-- Column `j` of the product of the normed row `r` of a block with a block of weights. -/
def blkCol (x0 : Vec Ideal S1024x1024 .f32) (x1 : Vec Ideal S1x1024 .f32) (x2 : Vec Ideal S1024x3072 .bf16) (r : Fin 1024) (j : Fin 3072) : EReal :=
  ∑ d, rms (fun e => x0 (ix2 r e)) (fun e => x1 (ix2 0 e)) d * x2 (ix2 d j)

variable (x0 : Vec Ideal S1024x1024 .f32) (x1 : Vec Ideal S1x1024 .f32) (x2 : Vec Ideal S1024x3072 .bf16)
  (x3 : Vec Ideal S1024x128 .bf16) (x4 : Vec Ideal S1x128 .f32)

theorem normed_apply (r d : Fin 1024) : k0_pay13 (F := Ideal) x0 x1 x2 x3 x4 (ix2 r d) = rms (fun e => x0 (ix2 r e)) (fun e => x1 (ix2 0 e)) d := by
  unfold k0_pay13
  rw [View.ld_unit_zero (S := S1024x1024) hz, View.ld_unit_zero (S := S1x1024) hz]
  pointwise [k0_pay2, rms]

theorem q_apply (r : Fin 1024) (j : Fin 512) : out0_5 (F := Ideal) x0 x1 x2 x3 x4 (ix2 r j) = blkCol x0 x1 x2 r ⟨j.val, by omega⟩ := by
  unfold out0_5
  rw [View.canon_unit_zero hz]
  have e : k0_pay6 (k0_pay5 (View.ld x0 r0_0) (View.ld x1 r0_1) (View.ld x2 r0_4)) (ix2 r j)
      = ∑ d, k0_pay13 x0 x1 x2 x3 x4 (ix2 r d) * View.ld x2 r0_4 (ix2 d j) := by
    unfold k0_pay13
    generalize View.ld x2 r0_4 = w
    pointwise [k0_pay6, k0_pay5]
  rw [e]
  refine Finset.sum_congr rfl fun d _ => ?_
  rw [normed_apply]
  refine congrArg₂ (· * ·) rfl (congrArg x2 ?_)
  funext a
  refine Fin.ext ?_
  fin_cases a
  · show 0 + 1 * d.val = d.val
    omega
  · show 0 + 1 * j.val = j.val
    omega

theorem k_apply (r : Fin 1024) (j : Fin 512) : out0_6 (F := Ideal) x0 x1 x2 x3 x4 (ix2 r j)
    = blkCol x0 x1 x2 r ⟨512 + j.val, by omega⟩ * Ideal.ofBits .f32 0x3DB504F3#32 := by
  unfold out0_6
  rw [View.canon_unit_zero hz]
  have e (u : FVec Ideal S1024x1024 .bf16) (w : Vec Ideal S1024x512 .bf16) : k0_pay7 u w (ix2 r j)
      = (∑ d, u (ix2 r d) * w (ix2 d j)) * Ideal.ofBits .f32 0x3DB504F3#32 := by
    pointwise [k0_pay7]
  rw [e]
  refine congrArg (· * _) (Finset.sum_congr rfl fun d _ => ?_)
  rw [normed_apply]
  refine congrArg₂ (· * ·) rfl (congrArg x2 ?_)
  funext a
  refine Fin.ext ?_
  fin_cases a
  · show 0 + 1 * d.val = d.val
    omega
  · show 512 + 1 * j.val = 512 + j.val
    omega

theorem v_apply (r : Fin 1024) (j : Fin 1024) : out0_7 (F := Ideal) x0 x1 x2 x3 x4 (ix2 r j)
    = blkCol x0 x1 x2 r ⟨1024 + j.val, by omega⟩ := by
  unfold out0_7
  rw [View.canon_unit_zero hz]
  have e (u : FVec Ideal S1024x1024 .bf16) (w : Vec Ideal S1024x1024 .bf16) : k0_pay1 u w (ix2 r j)
      = ∑ d, u (ix2 r d) * w (ix2 d j) := by
    pointwise [k0_pay1]
  rw [e]
  refine Finset.sum_congr rfl fun d _ => ?_
  rw [normed_apply]
  refine congrArg₂ (· * ·) rfl (congrArg x2 ?_)
  funext a
  refine Fin.ext ?_
  fin_cases a
  · show 0 + 1 * d.val = d.val
    omega
  · show 1024 + 1 * j.val = 1024 + j.val
    omega

theorem o_apply (r : Fin 1024) (j : Fin 1024) : out0_8 (F := Ideal) x0 x1 x2 x3 x4 (ix2 r j)
    = Ideal.logistic (blkCol x0 x1 x2 r ⟨2048 + j.val, by omega⟩) := by
  unfold out0_8
  rw [View.canon_unit_zero hz]
  have e (u : FVec Ideal S1024x1024 .bf16) (w : Vec Ideal S1024x1024 .bf16) : k0_pay11 u w (ix2 r j)
      = Ideal.logistic (∑ d, u (ix2 r d) * w (ix2 d j)) := by
    pointwise [k0_pay11]
  rw [e]
  refine congrArg Ideal.logistic (Finset.sum_congr rfl fun d _ => ?_)
  rw [normed_apply]
  refine congrArg₂ (· * ·) rfl (congrArg x2 ?_)
  funext a
  refine Fin.ext ?_
  fin_cases a
  · show 0 + 1 * d.val = d.val
    omega
  · show 2048 + 1 * j.val = 2048 + j.val
    omega

/-- The global row of row `r` of point `t`. -/
def rowN (t : Fin cfg0.N) (r : Fin 1024) : Fin 32768 :=
  ⟨t.val * 1024 + r.val, by have h : t.val < 32 := lt_of_lt_of_eq t.isLt (by decide +kernel); omega⟩

theorem x_read (c : Dev nD) (t : Fin cfg0.N) (r e : Fin 1024) :
    iblk m c 0 t (ix2 r e) = rowAt (m ((c : Thread nD τ).loc main_arg0)) (rowN t r) e := by
  unfold rowAt rowN
  blk_point [iblk, V, idx t]

theorem g_read (c : Dev nD) (t : Fin cfg0.N) (e : Fin 1024) :
    iblk m c 1 t (ix2 0 e) = m ((c : Thread nD τ).loc main_arg1) (ix1 e) := by
  blk_point [iblk, V, idx t]

theorem w_read (c : Dev nD) (t : Fin cfg0.N) (d : Fin 1024) (j : Fin 3072) :
    iblk m c 2 t (ix2 d j) = m ((c : Thread nD τ).loc main_arg2) (ix2 d ⟨j.val, by omega⟩) := by
  blk_point [iblk, V, idx t]

theorem blkCol_eq (c : Dev nD) (t : Fin cfg0.N) (r : Fin 1024) (j : Fin 3072) :
    blkCol (iblk m c 0 t) (iblk m c 1 t) (iblk m c 2 t) r j
      = col (m ((c : Thread nD τ).loc main_arg0)) (m ((c : Thread nD τ).loc main_arg1)) (m ((c : Thread nD τ).loc main_arg2))
          (rowN t r) ⟨j.val, by omega⟩ := by
  unfold blkCol col rms
  simp only [x_read, g_read, w_read]

end Cert.ProjIdeal.Hand
end
-- ==== Proof.ProjArray.lean ====
/- The projections: the product results, over the argument arrays. -/
module

public import proofs.«01_k».proof.Proof.ProjBlock
public import proofs.«01_k».proof.Proof.Spec
public import Idealize.ShloMosaic.Lib.ValueIdx
public import Idealize.ShloMosaic.Lib.Pipeline.ValueKit.Point
public import Idealize.ShloMosaic.Lib.Tactic
public import Idealize.ShloMosaic.Lib.Claim
public import Idealize.ShloMosaic.Lib.Routing.OpsPair

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)
open Cert.Spec

/-- The queries. -/
def Gq (x : FVec Ideal S8x4096x1024 .f32) (g : FVec Ideal S1024 .f32) (w : FVec Ideal S1024x3080 .f32) : FVec Ideal S32768x512 .bf16 :=
  fun i => col x g w (i 0) ⟨(i 1).val, by have := (i 1).isLt; simp at this; omega⟩

/-- The scaled keys. -/
def Gk (x : FVec Ideal S8x4096x1024 .f32) (g : FVec Ideal S1024 .f32) (w : FVec Ideal S1024x3080 .f32) : FVec Ideal S32768x512 .bf16 :=
  fun i => col x g w (i 0) ⟨512 + (i 1).val, by have := (i 1).isLt; simp at this; omega⟩ * Ideal.ofBits .f32 0x3DB504F3#32

/-- The values. -/
def Gv (x : FVec Ideal S8x4096x1024 .f32) (g : FVec Ideal S1024 .f32) (w : FVec Ideal S1024x3080 .f32) : FVec Ideal S32768x1024 .bf16 :=
  fun i => col x g w (i 0) ⟨1024 + (i 1).val, by have := (i 1).isLt; simp at this; omega⟩

/-- The output gates. -/
def Go (x : FVec Ideal S8x4096x1024 .f32) (g : FVec Ideal S1024 .f32) (w : FVec Ideal S1024x3080 .f32) : FVec Ideal S32768x1024 .bf16 :=
  fun i => Ideal.logistic (col x g w (i 0) ⟨2048 + (i 1).val, by have := (i 1).isLt; simp at this; omega⟩)

variable (m : (ℓ : Loc nD τ sig) → Buf (Elt Ideal) ℓ)

theorem Gq_apply (x : FVec Ideal S8x4096x1024 .f32) (g : FVec Ideal S1024 .f32) (w : FVec Ideal S1024x3080 .f32)
    (n : Fin 32768) (j : Fin 512) : Gq x g w (ix2 n j) = col x g w n ⟨j.val, by omega⟩ := rfl

theorem emb5 (t : Fin cfg0.N) (r : Fin 1024) (j : Fin 512) : (win0_5.blk t).view.emb (ix2 r j) = ix2 (rowN t r) j := by
  unfold rowN
  blk_ext! [idx t]

theorem final5 (c : Dev nD) : (dats m 0 c).arrAt 5 cfg0.N
    = Gq (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨r, j, rfl⟩ : ∃ (r : Fin 1024) (j : Fin 512), y = ix2 r j := ⟨y 0, y 1, (ix2_eta y).symm⟩
  rw [q_apply, blkCol_eq, emb5, Gq_apply]

theorem Gk_apply (x : FVec Ideal S8x4096x1024 .f32) (g : FVec Ideal S1024 .f32) (w : FVec Ideal S1024x3080 .f32)
    (n : Fin 32768) (j : Fin 512) : Gk x g w (ix2 n j) = col x g w n ⟨512 + j.val, by omega⟩ * Ideal.ofBits .f32 0x3DB504F3#32 := rfl

theorem emb6 (t : Fin cfg0.N) (r : Fin 1024) (j : Fin 512) : (win0_6.blk t).view.emb (ix2 r j) = ix2 (rowN t r) j := by
  unfold rowN
  blk_ext! [idx t]

theorem final6 (c : Dev nD) : (dats m 0 c).arrAt 6 cfg0.N
    = Gk (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  obtain ⟨r, j, rfl⟩ : ∃ (r : Fin 1024) (j : Fin 512), y = ix2 r j := ⟨y 0, y 1, (ix2_eta y).symm⟩
  rw [k_apply, blkCol_eq, emb6, Gk_apply]

theorem Gv_apply (x : FVec Ideal S8x4096x1024 .f32) (g : FVec Ideal S1024 .f32) (w : FVec Ideal S1024x3080 .f32)
    (n : Fin 32768) (j : Fin 1024) : Gv x g w (ix2 n j) = col x g w n ⟨1024 + j.val, by omega⟩ := rfl

theorem emb7 (t : Fin cfg0.N) (r : Fin 1024) (j : Fin 1024) : (win0_7.blk t).view.emb (ix2 r j) = ix2 (rowN t r) j := by
  unfold rowN
  blk_ext! [idx t]

theorem final7 (c : Dev nD) : (dats m 0 c).arrAt 7 cfg0.N
    = Gv (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  obtain ⟨r, j, rfl⟩ : ∃ (r : Fin 1024) (j : Fin 1024), y = ix2 r j := ⟨y 0, y 1, (ix2_eta y).symm⟩
  rw [v_apply, blkCol_eq, emb7, Gv_apply]

theorem Go_apply (x : FVec Ideal S8x4096x1024 .f32) (g : FVec Ideal S1024 .f32) (w : FVec Ideal S1024x3080 .f32)
    (n : Fin 32768) (j : Fin 1024) : Go x g w (ix2 n j) = Ideal.logistic (col x g w n ⟨2048 + j.val, by omega⟩) := rfl

theorem emb8 (t : Fin cfg0.N) (r : Fin 1024) (j : Fin 1024) : (win0_8.blk t).view.emb (ix2 r j) = ix2 (rowN t r) j := by
  unfold rowN
  blk_ext! [idx t]

theorem final8 (c : Dev nD) : (dats m 0 c).arrAt 8 cfg0.N
    = Go (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  obtain ⟨r, j, rfl⟩ : ∃ (r : Fin 1024) (j : Fin 1024), y = ix2 r j := ⟨y 0, y 1, (ix2_eta y).symm⟩
  rw [o_apply, blkCol_eq, emb8, Go_apply]

end Cert.ProjIdeal.Hand
end
-- ==== Proof.ProjRef.lean ====
/- The projections: the reference's product results. -/
module

public import proofs.«01_k».proof.Proof.ProjArray
public import proofs.«01_k».proof.Proof.Gen.ProjRefIdeal.Run
public import proofs.«01_k».proof.Proof.Gen.ProjRefIdeal.Read
public import proofs.«01_k».proof.Proof.Spec
public import Idealize.ShloMosaic.Lib.ValueIdx
public import Idealize.ShloMosaic.Lib.Pipeline.ValueKit.Point
public import Idealize.ShloMosaic.Lib.Tactic
public import Idealize.ShloMosaic.Lib.Claim
public import Idealize.ShloMosaic.Lib.Routing.OpsPair

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)
open Cert.Spec

variable (x : FVec Ideal S8x4096x1024 .f32) (g : FVec Ideal S1024 .f32) (w : FVec Ideal S1024x3080 .f32) (b : FVec Ideal S8 .f32)

open Cert.ProjRefIdeal.Read

theorem prod_ref (n : Fin 32768) (j : Fin 3080) : val_main_v14 (F := Ideal) x g w (ix2 n j) = col x g w n j := by
  unfold val_main_v14 val_main_v13 val_main_v12 val_main_v11 val_main_v10 val_main_v9 val_main_v8 val_main_v7 val_main_v6 val_main_v5 val_main_v4 val_main_v3
    val_main_v2 val_main_v1 val_main_v0 val_main_cst val_main_cst_0 val_main_cst_1
  pointwise [col, rms, rowAt]

theorem q_ref : val_main_v43 (F := Ideal) x g w = Gq x g w := by
  funext i
  obtain ⟨n, j, rfl⟩ : ∃ (n : Fin 32768) (j : Fin 512), i = ix2 n j := ⟨i 0, i 1, (ix2_eta i).symm⟩
  rw [Gq_apply, ← prod_ref, val_main_v43_apply, val_main_v15_apply]
  refine congrArg (val_main_v14 (F := Ideal) x g w) ?_
  funext a
  refine Fin.ext ?_
  fin_cases a
  · rfl
  · rfl

theorem k_ref : val_main_v44 (F := Ideal) x g w = Gk x g w := by
  funext i
  obtain ⟨n, j, rfl⟩ : ∃ (n : Fin 32768) (j : Fin 512), i = ix2 n j := ⟨i 0, i 1, (ix2_eta i).symm⟩
  rw [Gk_apply, ← prod_ref, val_main_v44_apply, val_main_v36_apply, val_main_v16_apply]
  refine congrArg (· * _) (congrArg (val_main_v14 (F := Ideal) x g w) ?_)
  funext a
  refine Fin.ext ?_
  fin_cases a
  · rfl
  · rfl

theorem v_ref : val_main_v45 (F := Ideal) x g w = Gv x g w := by
  funext i
  obtain ⟨n, j, rfl⟩ : ∃ (n : Fin 32768) (j : Fin 1024), i = ix2 n j := ⟨i 0, i 1, (ix2_eta i).symm⟩
  rw [Gv_apply, ← prod_ref, val_main_v45_apply, val_main_v17_apply]
  refine congrArg (val_main_v14 (F := Ideal) x g w) ?_
  funext a
  refine Fin.ext ?_
  fin_cases a
  · rfl
  · rfl

theorem o_ref : val_main_v46 (F := Ideal) x g w = Go x g w := by
  funext i
  obtain ⟨n, j, rfl⟩ : ∃ (n : Fin 32768) (j : Fin 1024), i = ix2 n j := ⟨i 0, i 1, (ix2_eta i).symm⟩
  rw [Go_apply, ← prod_ref]
  pointwise [val_main_v46, val_main_v42, val_main_v41, val_main_v40, val_main_v39, val_main_v38, val_main_v37, val_main_v18, val_main_cst_3, val_main_cst_4]
  rfl

end Cert.ProjIdeal.Hand
end
-- ==== Proof.ProjPad.lean ====
/- The projections: the padded gate weights and biases, read below lane 8. -/
module

public import proofs.«01_k».proof.Proof.ProjBlock
public import proofs.«01_k».proof.Proof.Spec
public import Idealize.ShloMosaic.Lib.ValueIdx
public import Idealize.ShloMosaic.Lib.Pipeline.ValueKit.Point
public import Idealize.ShloMosaic.Lib.Tactic
public import Idealize.ShloMosaic.Lib.Claim
public import Idealize.ShloMosaic.Lib.Routing.OpsPair
public import Idealize.ShloMosaic.Lib.Routing.OpsSet

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)
open Cert.Spec

variable (m : (ℓ : Loc nD τ sig) → Buf (Elt Ideal) ℓ)

open Idealize.ShloMosaic.Routing (resultIdx?_ix2 scatter_set_hit)

/-- The gate weights set into the first 8 lanes of a table, read there. -/
theorem scatW (x0 : FVec Ideal S1024x128 .bf16) (ix : IVec S1 32) (hi : ∀ k, ix k = 0#32) (u : FVec Ideal S1024x8 .bf16) (d : Fin 1024) (l : Fin 128)
    (hl : l.val < 8) : Host.scatter scatter_S1024x128_S1_S1024x8_01_n_1_0 (fun _ b => b) x0 ix u (ix2 d l) = u (ix2 d ⟨l.val, hl⟩) := by
  have e (a : Fin 1024) (b : Fin 8) : scatter_S1024x128_S1_S1024x8_01_n_1_0.resultIdx? (ix2 a b) ix = some (ix2 d l) ↔ a.val = d.val ∧ b.val = l.val := by
    have s0 : scatter_S1024x128_S1_S1024x8_01_n_1_0.start (ix2 a b) ix 0 = 0 := rfl
    have s1 : scatter_S1024x128_S1_S1024x8_01_n_1_0.start (ix2 a b) ix 1 = 0 := by
      unfold ScatterDims.start
      rw [dif_pos (by decide), hi]
      rfl
    have w0 : scatter_S1024x128_S1_S1024x8_01_n_1_0.window (ix2 a b) 0 = a.val := rfl
    have w1 : scatter_S1024x128_S1_S1024x8_01_n_1_0.window (ix2 a b) 1 = b.val := rfl
    refine (resultIdx?_ix2 (R := 1024) (C := 128) _ _ _ _ _).trans ?_
    rw [s0, s1, w0, w1]
    omega
  refine scatter_set_hit _ _ _ _ _ _ (fun k hk => ?_) (ix2 d ⟨l.val, hl⟩) ((e _ _).mpr ⟨rfl, rfl⟩)
  obtain ⟨a, b, rfl⟩ : ∃ (a : Fin 1024) (b : Fin 8), k = ix2 a b := ⟨k 0, k 1, (ix2_eta k).symm⟩
  have h := (e a b).mp hk
  rw [Fin.ext h.1, show b = ⟨l.val, hl⟩ from Fin.ext h.2]

/-- The gate biases set into the first 8 lanes of a row, read there. -/
theorem scatB (x0 : FVec Ideal S1x128 .f32) (ix : IVec S2 32) (hi : ∀ k, ix k = 0#32) (u : FVec Ideal S8 .f32) (l : Fin 128)
    (hl : l.val < 8) : Host.scatter scatter_S1x128_S2_S8_0_0_01_0 (fun _ b => b) x0 ix u (ix2 0 l) = u (ix1 ⟨l.val, hl⟩) := by
  have e (b : Fin 8) : scatter_S1x128_S2_S8_0_0_01_0.resultIdx? (ix1 b) ix = some (ix2 0 l) ↔ b.val = l.val := by
    have s0 : scatter_S1x128_S2_S8_0_0_01_0.start (ix1 b) ix 0 = 0 := by
      unfold ScatterDims.start
      rw [dif_pos (by decide), hi]
      rfl
    have s1 : scatter_S1x128_S2_S8_0_0_01_0.start (ix1 b) ix 1 = 0 := by
      unfold ScatterDims.start
      rw [dif_pos (by decide), hi]
      rfl
    have w0 : scatter_S1x128_S2_S8_0_0_01_0.window (ix1 b) 0 = 0 := rfl
    have w1 : scatter_S1x128_S2_S8_0_0_01_0.window (ix1 b) 1 = b.val := rfl
    refine (resultIdx?_ix2 (R := 1) (C := 128) _ _ _ _ _).trans ?_
    rw [s0, s1, w0, w1]
    show (0 : Int) + ((0 : Nat) : Int) = ((0 : Nat) : Int) ∧ _ ↔ _
    omega
  refine scatter_set_hit _ _ _ _ _ _ (fun k hk => ?_) (ix1 ⟨l.val, hl⟩) ((e _).mpr rfl)
  obtain ⟨b, rfl⟩ : ∃ (b : Fin 8), k = ix1 b := ⟨k 0, (ix1_eta k).symm⟩
  rw [show b = ⟨l.val, hl⟩ from Fin.ext ((e b).mp hk)]

theorem zero_words (k : S2.Idx) : concatenate S2 0
        [⟨S1, broadcastInDim S1 ![] bcast_S_S1 (constantI S_ 32 0#32)⟩,
          ⟨S1, broadcastInDim S1 ![] bcast_S_S1 (constantI S_ 32 0#32)⟩]
        concatenates_S1_S1_S2_d0 k = 0#32 := by
  obtain ⟨b, rfl⟩ : ∃ (b : Fin 2), k = ix1 b := ⟨k 0, (ix1_eta k).symm⟩
  pointwise
  split <;> rfl

theorem wg_read (c : Dev nD) (t : Fin cfg0.N) (d : Fin 1024) (l : Fin 128) (hl : l.val < 8) :
    iblk m c 3 t (ix2 d l) = m ((c : Thread nD τ).loc main_arg2) (ix2 d ⟨3072 + l.val, by omega⟩) := by
  have e : ((View.whole main_v4).slice (win0_3.rect t)).emb (ix2 d l) = ix2 d l := by
    blk_ext! [idx t]
  blk_simp [iblk]
  entry_read
  rw [e]
  refine (scatW _ _ (fun _ => rfl) _ d l hl).trans ?_
  pointwise

theorem bg_read (c : Dev nD) (t : Fin cfg0.N) (l : Fin 128) (hl : l.val < 8) :
    iblk m c 4 t (ix2 0 l) = m ((c : Thread nD τ).loc main_arg3) (ix1 ⟨l.val, hl⟩) := by
  have e : ((View.whole main_v9).slice (win0_4.rect t)).emb (ix2 0 l) = ix2 0 l := by
    blk_ext! [idx t]
  blk_simp [iblk]
  entry_read
  rw [e]
  exact scatB _ _ zero_words _ l hl

end Cert.ProjIdeal.Hand
end
-- ==== Proof.ProjSum.lean ====
/- The projections' running sums: the eight products of a tile with the triangle, read at a row. -/
module

public import proofs.«01_k».proof.Proof.Gen.ProjIdeal.Value
public import proofs.«01_k».proof.Proof.Spec
public import Idealize.ShloMosaic.Lib.ValueIdx
public import Idealize.ShloMosaic.Lib.Pipeline.ValueKit.Point
public import Idealize.ShloMosaic.Lib.Tactic

@[expose] public section

set_option maxRecDepth 16384

noncomputable section

namespace Cert.ProjIdeal.Hand

open Cert.ProjIdeal Cert.ProjIdeal.Gen
open Idealize.ShloMosaic Idealize.ShloMosaic.TcCoe
open Cert.Spec

/-- A lane index below a bound, as the kernel compares it. -/
theorem lane_lt (n k : Nat) (hn : n < 512) (hk : k < 512) {α : Type} (a b : α) :
    Scalar.select (IntOp.cmpi .slt (BitVec.ofNat 32 n) (BitVec.ofNat 32 k)) a b = if n < k then a else b := by
  have e : (BitVec.ofNat 32 n).slt (BitVec.ofNat 32 k) = decide (n < k) := by
    have h1 : (BitVec.ofNat 32 n).toInt = n := by
      rw [BitVec.toInt_eq_toNat_cond, BitVec.toNat_ofNat]; omega
    have h2 : (BitVec.ofNat 32 k).toInt = k := by
      rw [BitVec.toInt_eq_toNat_cond, BitVec.toNat_ofNat]; omega
    rw [BitVec.slt_eq_decide, h1, h2]
    exact decide_eq_decide.mpr Int.ofNat_lt
  by_cases h : n < k <;> simp [Scalar.select, IntOp.cmpi, e, h]

theorem term_congr (T : FVec Ideal S128x128 .bf16) (z : FVec Ideal S1024x256 .bf16) {a a' : Fin 128} {b b' : Fin 1024} (c : Fin 256)
    (k : Fin 128) (ha : a.val = a'.val) (hb : b.val = b'.val) : T (ix2 a k) * z (ix2 b c) = T (ix2 a' k) * z (ix2 b' c) := by
  rw [Fin.ext ha, Fin.ext hb]

set_option maxHeartbeats 1600000 in
/-- The gate block: the gates in lanes 0 to 3, the running sums beside them. -/
theorem cols_apply (T : FVec Ideal S128x128 .bf16) (v : FVec Ideal S1024x128 .f32) (r : Fin 1024) (l : Fin 128) :
    k0_pay10 (F := Ideal) T v (iota .tc S1024x128 32 [1] iota_S1024x128_d1_w32) (k0_pay8 v) (k0_pay9 T v) (ix2 r l)
      = if l.val < 4 then v (ix2 r l) else
        (∑ k : Fin 128, T (ix2 ⟨r.val % 128, by omega⟩ k) * k0_pay8 v (ix2 ⟨r.val / 128 * 128 + k.val, by omega⟩ ⟨l.val, by omega⟩))
          + ∑ k : Fin 128, T (ix2 ⟨r.val % 128, by omega⟩ k) * k0_pay8 v (ix2 ⟨r.val / 128 * 128 + k.val, by omega⟩ ⟨128 + l.val, by omega⟩) := by
  unfold k0_pay9
  generalize k0_pay8 v = z
  pointwise [k0_pay10]
  rw [lane_lt l.val 4 (by omega) (by omega)]
  by_cases hl : l.val < 4
  · rw [if_pos hl, if_pos hl]
  rw [if_neg hl, if_neg hl]
  have hr := r.isLt
  by_cases h0 : r.val < 128
  · rw [dif_pos h0, dif_pos h0]
    refine congrArg₂ (· + ·) (Finset.sum_congr rfl fun k _ => term_congr T z _ k ?_ ?_) (Finset.sum_congr rfl fun k _ => term_congr T z _ k ?_ ?_) <;> dsimp only <;> omega
  rw [dif_neg h0, dif_neg h0]
  by_cases h1 : r.val - 128 < 128
  · rw [dif_pos h1, dif_pos h1]
    refine congrArg₂ (· + ·) (Finset.sum_congr rfl fun k _ => term_congr T z _ k ?_ ?_) (Finset.sum_congr rfl fun k _ => term_congr T z _ k ?_ ?_) <;> dsimp only <;> omega
  rw [dif_neg h1, dif_neg h1]
  by_cases h2 : r.val - 128 - 128 < 128
  · rw [dif_pos h2, dif_pos h2]
    refine congrArg₂ (· + ·) (Finset.sum_congr rfl fun k _ => term_congr T z _ k ?_ ?_) (Finset.sum_congr rfl fun k _ => term_congr T z _ k ?_ ?_) <;> dsimp only <;> omega
  rw [dif_neg h2, dif_neg h2]
  by_cases h3 : r.val - 128 - 128 - 128 < 128
  · rw [dif_pos h3, dif_pos h3]
    refine congrArg₂ (· + ·) (Finset.sum_congr rfl fun k _ => term_congr T z _ k ?_ ?_) (Finset.sum_congr rfl fun k _ => term_congr T z _ k ?_ ?_) <;> dsimp only <;> omega
  rw [dif_neg h3, dif_neg h3]
  by_cases h4 : r.val - 128 - 128 - 128 - 128 < 128
  · rw [dif_pos h4, dif_pos h4]
    refine congrArg₂ (· + ·) (Finset.sum_congr rfl fun k _ => term_congr T z _ k ?_ ?_) (Finset.sum_congr rfl fun k _ => term_congr T z _ k ?_ ?_) <;> dsimp only <;> omega
  rw [dif_neg h4, dif_neg h4]
  by_cases h5 : r.val - 128 - 128 - 128 - 128 - 128 < 128
  · rw [dif_pos h5, dif_pos h5]
    refine congrArg₂ (· + ·) (Finset.sum_congr rfl fun k _ => term_congr T z _ k ?_ ?_) (Finset.sum_congr rfl fun k _ => term_congr T z _ k ?_ ?_) <;> dsimp only <;> omega
  rw [dif_neg h5, dif_neg h5]
  by_cases h6 : r.val - 128 - 128 - 128 - 128 - 128 - 128 < 128
  · rw [dif_pos h6, dif_pos h6]
    refine congrArg₂ (· + ·) (Finset.sum_congr rfl fun k _ => term_congr T z _ k ?_ ?_) (Finset.sum_congr rfl fun k _ => term_congr T z _ k ?_ ?_) <;> dsimp only <;> omega
  rw [dif_neg h6, dif_neg h6]
  refine congrArg₂ (· + ·) (Finset.sum_congr rfl fun k _ => term_congr T z _ k ?_ ?_) (Finset.sum_congr rfl fun k _ => term_congr T z _ k ?_ ?_) <;> dsimp only <;> omega

end Cert.ProjIdeal.Hand
end
-- ==== Proof.ProjGate.lean ====
/- The projections' gates: the log forget gate and its running sum over a chunk of 128 rows. -/
module

public import proofs.«01_k».proof.Proof.ProjSum
public import proofs.«01_k».proof.Proof.Spec
public import Idealize.ShloMosaic.Lib.ValueIdx
public import Idealize.ShloMosaic.Lib.Pipeline.ValueKit.Point
public import Idealize.ShloMosaic.Lib.Tactic

@[expose] public section

set_option maxRecDepth 16384

noncomputable section

namespace Cert.ProjIdeal.Hand

open Cert.ProjIdeal Cert.ProjIdeal.Gen
open Idealize.ShloMosaic Idealize.ShloMosaic.TcCoe
open Cert.Spec

/-- The log of the logistic of `z`, as the softplus of `-z` negated. -/
def logSig (z : EReal) : EReal :=
  -(max (-z) 0 + Ideal.log1p (Ideal.exp (-max (-z) (- -z))))

/-- What enters the running sums at a lane: the log forget gate in lanes 4 to 7, zero elsewhere. -/
def fed (z : EReal) (l : Fin 128) : EReal := if 4 ≤ l.val ∧ l.val < 8 then logSig z else 0

theorem lanes_fact : ∀ l : Fin 128, IntOp.andi (IntOp.cmpi .sge (BitVec.ofNat 32 l.val) 4#32) (IntOp.cmpi .slt (BitVec.ofNat 32 l.val) 8#32)
    = BitVec.ofBool (decide (4 ≤ l.val ∧ l.val < 8)) := by decide +kernel

theorem fed_eq (z : EReal) (l : Fin 128) : Scalar.select (IntOp.andi (IntOp.cmpi .sge (BitVec.ofNat 32 l.val) 4#32)
      (IntOp.cmpi .slt (BitVec.ofNat 32 l.val) 8#32))
      (0 - if 0 - z ≠ 0 - z then 0 - z else max (0 - z) 0 + Ideal.log1p (Ideal.exp (0 - FloatOps.absf (F := Ideal) (φ := .f32) (0 - z)))) (0 : EReal)
      = fed z l := by
  have e : FloatOps.absf (F := Ideal) (φ := .f32) (0 - z) = max (-z) (- -z) := by
    rw [show (0 : EReal) - z = -z from zero_sub _]; rfl
  rw [lanes_fact, if_neg (fun h => h rfl), e]
  simp only [zero_sub]
  unfold fed logSig
  by_cases h : 4 ≤ l.val ∧ l.val < 8 <;> simp [Scalar.select, h]

theorem fed_apply (z : FVec Ideal S1024x128 .f32) (r : Fin 1024) (l : Fin 128) :
    k0_pay8 (F := Ideal) z (ix2 r ⟨l.val, by omega⟩) = fed (z (ix2 r l)) l := by
  pointwise [k0_pay8]
  exact fed_eq _ _

theorem rest_apply (z : FVec Ideal S1024x128 .f32) (r : Fin 1024) (l : Fin 128) :
    k0_pay8 (F := Ideal) z (ix2 r ⟨128 + l.val, by omega⟩) = fed (z (ix2 r l)) l - fed (z (ix2 r l)) l := by
  pointwise [k0_pay8]
  exact congrArg₂ (· - ·) (fed_eq _ _) (fed_eq _ _)

theorem tri_fact : ∀ r k : Fin 128, IntOp.andi (IntOp.cmpi .sge (BitVec.ofNat 32 r.val) (BitVec.ofNat 32 k.val))
    (IntOp.cmpi .eq (IntOp.shrui .vector (BitVec.ofNat 32 r.val) 7#32) (IntOp.shrui .vector (BitVec.ofNat 32 k.val) 7#32))
    = BitVec.ofBool (decide (k.val ≤ r.val)) := by decide +kernel

theorem tri_apply (r k : Fin 128) : k0_pay3 (F := Ideal) (ix2 r k) = if k.val ≤ r.val then 1 else 0 := by
  pointwise [k0_pay3]
  rw [tri_fact]
  by_cases h : k.val ≤ r.val <;> simp [Scalar.select, h]

theorem log1p_exp_nonneg (x : EReal) : 0 ≤ Ideal.log1p (Ideal.exp x) := by
  have real (r : ℝ) (hr : 0 ≤ r) : 0 ≤ Ideal.log1p ((r : ℝ) : EReal) := by
    have e : (1 : EReal) + (r : ℝ) = ((1 + r : ℝ) : EReal) := rfl
    have e' : Ideal.log (((1 + r : ℝ)) : EReal) = if 1 + r ≤ 0 then ⊥ else ((Real.log (1 + r) : ℝ) : EReal) := rfl
    unfold Ideal.log1p
    rw [e, e', if_neg (by linarith)]
    exact EReal.coe_nonneg.mpr (Real.log_nonneg (by linarith))
  induction x with
  | bot => exact real 0 le_rfl
  | top =>
    have e : (1 : EReal) + ⊤ = ⊤ := rfl
    show 0 ≤ Ideal.log (1 + ⊤)
    rw [e]
    exact le_top
  | coe x => exact real _ (Real.exp_pos x).le

/-- The log forget gate is below infinity. -/
theorem logSig_ne_top (z : EReal) : logSig z ≠ ⊤ := by
  unfold logSig
  have h1 : 0 ≤ max (-z) 0 := le_max_right _ _
  have h2 : 0 ≤ Ideal.log1p (Ideal.exp (-max (-z) (- -z))) := log1p_exp_nonneg _
  have h := add_nonneg h1 h2
  intro e
  rw [EReal.neg_eq_top_iff] at e
  rw [e] at h
  exact absurd h (by simp)

/-- A masked sum beside the masked sum of the terms' differences with themselves is the sum, where no term is +∞. -/
theorem sum_hi_lo (P : Fin 128 → Prop) [DecidablePred P] (L : Fin 128 → EReal) (hL : ∀ k, L k ≠ ⊤) :
    (∑ k, (if P k then 1 else 0) * L k) + ∑ k, (if P k then 1 else 0) * (L k - L k) = ∑ k, if P k then L k else 0 := by
  have e : (∑ k, (if P k then 1 else 0) * L k) = ∑ k, if P k then L k else 0 :=
    Finset.sum_congr rfl fun k _ => by split <;> simp
  rw [e]
  by_cases hb : ∃ k, P k ∧ L k = ⊥
  · obtain ⟨k, hk, hk'⟩ := hb
    have : (∑ k, if P k then L k else 0) = ⊥ := by
      rw [← Finset.add_sum_erase _ _ (Finset.mem_univ k), if_pos hk, hk', EReal.bot_add]
    rw [this, EReal.bot_add]
  · refine (congrArg _ (Finset.sum_eq_zero fun k _ => ?_)).trans (add_zero _)
    by_cases hk : P k
    · rw [if_pos hk, one_mul]
      exact EReal.sub_self (hL k) fun h => hb ⟨k, hk, h⟩
    · rw [if_neg hk, zero_mul]

/-- The gate block of a tile, over its gates: the gates in lanes 0 to 3, the running sums of the log forget gates beside them. -/
def cols (v : FVec Ideal S1024x128 .f32) (r : Fin 1024) (l : Fin 128) : EReal :=
  if l.val < 4 then v (ix2 r l) else
    ∑ k : Fin 128, if k.val ≤ r.val % 128 then fed (v (ix2 ⟨r.val / 128 * 128 + k.val, by omega⟩ l)) l else 0

theorem fed_ne_top (z : EReal) (l : Fin 128) : fed z l ≠ ⊤ := by
  unfold fed
  split
  · exact logSig_ne_top z
  · exact EReal.zero_ne_top

theorem cols_eq (v : FVec Ideal S1024x128 .f32) (r : Fin 1024) (l : Fin 128) :
    k0_pay10 (F := Ideal) k0_pay3 v (iota .tc S1024x128 32 [1] iota_S1024x128_d1_w32) (k0_pay8 v) (k0_pay9 k0_pay3 v) (ix2 r l) = cols v r l := by
  rw [cols_apply]
  unfold cols
  by_cases hl : l.val < 4
  · rw [if_pos hl, if_pos hl]
  rw [if_neg hl, if_neg hl]
  refine Eq.trans ?_ (sum_hi_lo (fun k => k.val ≤ r.val % 128) _ fun k => fed_ne_top _ l)
  refine congrArg₂ (· + ·) (Finset.sum_congr rfl fun k _ => ?_) (Finset.sum_congr rfl fun k _ => ?_)
  · rw [tri_apply, fed_apply]
  · rw [tri_apply, rest_apply]

end Cert.ProjIdeal.Hand
end
-- ==== Proof.ProjCols.lean ====
/- The projections: the gate results, over the argument arrays. -/
module

public import proofs.«01_k».proof.Proof.ProjPad
public import proofs.«01_k».proof.Proof.ProjGate
public import proofs.«01_k».proof.Proof.Spec
public import Idealize.ShloMosaic.Lib.ValueIdx
public import Idealize.ShloMosaic.Lib.Pipeline.ValueKit.Point
public import Idealize.ShloMosaic.Lib.Tactic
public import Idealize.ShloMosaic.Lib.Claim
public import Idealize.ShloMosaic.Lib.Routing.OpsPair

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)
open Cert.Spec

/-- Gate `l` of row `n`. -/
def gate (x : FVec Ideal S8x4096x1024 .f32) (g : FVec Ideal S1024 .f32) (w : FVec Ideal S1024x3080 .f32) (b : FVec Ideal S8 .f32) (n : Fin 32768) (l : Fin 8) : EReal :=
  col x g w n ⟨3072 + l.val, by omega⟩ + b (ix1 l)

/-- The sum of the log forget gates of lane `l`, over the rows of row `n`'s chunk up to `n`. -/
def csum (x : FVec Ideal S8x4096x1024 .f32) (g : FVec Ideal S1024 .f32) (w : FVec Ideal S1024x3080 .f32) (b : FVec Ideal S8 .f32) (n : Fin 32768) (l : Fin 8) : EReal :=
  ∑ k : Fin 128, if k.val ≤ n.val % 128 then logSig (gate x g w b ⟨n.val / 128 * 128 + k.val, by omega⟩ l) else 0

/-- Column `l` of row `n` of the gates: input gates, running sums, zeros. -/
def gcol (x : FVec Ideal S8x4096x1024 .f32) (g : FVec Ideal S1024 .f32) (w : FVec Ideal S1024x3080 .f32) (b : FVec Ideal S8 .f32) (n : Fin 32768) (l : Fin 128) : EReal :=
  if h : l.val < 4 then gate x g w b n ⟨l.val, by omega⟩ else if h : l.val < 8 then csum x g w b n ⟨l.val, by omega⟩ else 0

/-- Row `s` of the gates at row `n`: input gates less running sums, running sums. -/
def grow (x : FVec Ideal S8x4096x1024 .f32) (g : FVec Ideal S1024 .f32) (w : FVec Ideal S1024x3080 .f32) (b : FVec Ideal S8 .f32) (n : Fin 32768) (s : Fin 8) : EReal :=
  if h : s.val < 4 then gate x g w b n ⟨s.val, by omega⟩ - csum x g w b n ⟨4 + s.val, by omega⟩ else csum x g w b n s

/-- The gates in columns. -/
def Gcol (x : FVec Ideal S8x4096x1024 .f32) (g : FVec Ideal S1024 .f32) (w : FVec Ideal S1024x3080 .f32) (b : FVec Ideal S8 .f32) : FVec Ideal S32768x128 .f32 :=
  fun i => gcol x g w b (i 0) (i 1)

/-- The gates in rows. -/
def Grow (x : FVec Ideal S8x4096x1024 .f32) (g : FVec Ideal S1024 .f32) (w : FVec Ideal S1024x3080 .f32) (b : FVec Ideal S8 .f32) : FVec Ideal S8x8x4096 .f32 :=
  fun i => grow x g w b ⟨(i 0).val * 4096 + (i 2).val, by
    have h0 : (i 0).val < 8 := (i 0).isLt
    have h2 : (i 2).val < 4096 := (i 2).isLt
    omega⟩ (i 1)

variable (m : (ℓ : Loc nD τ sig) → Buf (Elt Ideal) ℓ)
variable (x0 : Vec Ideal S1024x1024 .f32) (x1 : Vec Ideal S1x1024 .f32) (x2 : Vec Ideal S1024x3072 .bf16)
  (x3 : Vec Ideal S1024x128 .bf16) (x4 : Vec Ideal S1x128 .f32)

theorem gates_apply (r : Fin 1024) (l : Fin 128) : k0_pay15 (F := Ideal) x0 x1 x2 x3 x4 (ix2 r l)
    = (∑ d, rms (fun e => x0 (ix2 r e)) (fun e => x1 (ix2 0 e)) d * x3 (ix2 d l)) + x4 (ix2 0 l) := by
  unfold k0_pay15
  rw [View.ld_unit_zero (S := S1024x1024) hz, View.ld_unit_zero (S := S1x1024) hz, View.ld_unit_zero (S := S1024x128) hz,
    View.ld_unit_zero (S := S1x128) hz]
  pointwise [k0_pay4, k0_pay2, rms]

theorem gates_eq (c : Dev nD) (t : Fin cfg0.N) (r : Fin 1024) (l : Fin 128) (hl : l.val < 8) :
    k0_pay15 (F := Ideal) (iblk m c 0 t) (iblk m c 1 t) (iblk m c 2 t) (iblk m c 3 t) (iblk m c 4 t) (ix2 r l)
      = gate (m ((c : Thread nD τ).loc main_arg0)) (m ((c : Thread nD τ).loc main_arg1)) (m ((c : Thread nD τ).loc main_arg2))
          (m ((c : Thread nD τ).loc main_arg3)) (rowN t r) ⟨l.val, hl⟩ := by
  have hw := fun d => wg_read m c t d l hl
  rw [gates_apply]
  unfold gate col rms
  simp only [x_read, g_read, bg_read m c t l hl, hw]

theorem cols_read (c : Dev nD) (t : Fin cfg0.N) (r : Fin 1024) (l : Fin 128) :
    cols (k0_pay15 (F := Ideal) (iblk m c 0 t) (iblk m c 1 t) (iblk m c 2 t) (iblk m c 3 t) (iblk m c 4 t)) r l
      = gcol (m ((c : Thread nD τ).loc main_arg0)) (m ((c : Thread nD τ).loc main_arg1)) (m ((c : Thread nD τ).loc main_arg2))
          (m ((c : Thread nD τ).loc main_arg3)) (rowN t r) l := by
  unfold cols gcol
  by_cases h4 : l.val < 4
  · rw [if_pos h4, dif_pos h4, gates_eq m c t r l (by omega)]
  rw [if_neg h4, dif_neg h4]
  by_cases h8 : l.val < 8
  · rw [dif_pos h8]
    unfold csum
    have hm : (rowN t r).val % 128 = r.val % 128 := by unfold rowN; dsimp only; omega
    rw [hm]
    refine Finset.sum_congr rfl fun k _ => if_congr Iff.rfl ?_ rfl
    rw [gates_eq m c t _ l h8]
    unfold fed
    rw [if_pos ⟨by omega, h8⟩]
    refine congrArg (fun n => logSig (gate _ _ _ _ n _)) (Fin.ext ?_)
    unfold rowN
    dsimp only
    omega
  · rw [dif_neg h8]
    refine Finset.sum_eq_zero fun k _ => ?_
    rw [show ∀ z, fed z l = 0 from fun z => if_neg fun h => h8 h.2, ite_self]

theorem gcol_apply (r : Fin 1024) (l : Fin 128) : out0_9 (F := Ideal) x0 x1 x2 x3 x4 (ix2 r l) = cols (k0_pay15 x0 x1 x2 x3 x4) r l := by
  unfold out0_9 k0_pay18 k0_pay17 k0_pay16 k0_pay14
  rw [View.canon_unit_zero hz]
  exact cols_eq _ r l

theorem emb9 (t : Fin cfg0.N) (r : Fin 1024) (j : Fin 128) : (win0_9.blk t).view.emb (ix2 r j) = ix2 (rowN t r) j := by
  unfold rowN
  blk_ext! [idx t]

theorem Gcol_apply (x : FVec Ideal S8x4096x1024 .f32) (g : FVec Ideal S1024 .f32) (w : FVec Ideal S1024x3080 .f32) (b : FVec Ideal S8 .f32)
    (n : Fin 32768) (l : Fin 128) : Gcol x g w b (ix2 n l) = gcol x g w b n l := rfl

theorem final9 (c : Dev nD) : (dats m 0 c).arrAt 9 cfg0.N
    = Gcol (m ((c : Thread nD τ).loc main_arg0)) (m ((c : Thread nD τ).loc main_arg1)) (m ((c : Thread nD τ).loc main_arg2))
        (m ((c : Thread nD τ).loc main_arg3)) := by
  refine (dats m 0 c).arrAt_eq_of_covers 9 _ (by decide +kernel) fun t hf y => ?_
  blk_simp
  rw [after0_9]
  obtain ⟨r, j, rfl⟩ : ∃ (r : Fin 1024) (j : Fin 128), y = ix2 r j := ⟨y 0, y 1, (ix2_eta y).symm⟩
  rw [gcol_apply, cols_read, emb9, Gcol_apply]

end Cert.ProjIdeal.Hand
end
-- ==== Proof.ProjRows.lean ====
/- The projections: the gate results in rows, over the argument arrays. -/
module

public import proofs.«01_k».proof.Proof.ProjCols
public import proofs.«01_k».proof.Proof.Spec
public import Idealize.ShloMosaic.Lib.ValueIdx
public import Idealize.ShloMosaic.Lib.Pipeline.ValueKit.Point
public import Idealize.ShloMosaic.Lib.Tactic
public import Idealize.ShloMosaic.Lib.Claim
public import Idealize.ShloMosaic.Lib.Routing.OpsPair

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)
open Cert.Spec

variable (m : (ℓ : Loc nD τ sig) → Buf (Elt Ideal) ℓ)
variable (x0 : Vec Ideal S1024x1024 .f32) (x1 : Vec Ideal S1x1024 .f32) (x2 : Vec Ideal S1024x3072 .bf16)
  (x3 : Vec Ideal S1024x128 .bf16) (x4 : Vec Ideal S1x128 .f32)

theorem hz3 : (![0, 0, 0] : Fin 3 → Nat) = fun _ => 0 := funext fun a => by fin_cases a <;> rfl

theorem turned_apply (T : FVec Ideal S128x128 .bf16) (v : FVec Ideal S1024x128 .f32) (q : IVec S1024x128 32) (z : FVec Ideal S1024x256 .bf16)
    (p : FVec Ideal S128x256 .f32) (s : Fin 8) (r : Fin 1024) : k0_pay12 (F := Ideal) T v q z p (ix3 0 s r)
      = if h : s.val < 4 then k0_pay10 T v q z p (ix2 r ⟨s.val, by omega⟩) - k0_pay10 T v q z p (ix2 r ⟨4 + s.val, by omega⟩)
        else k0_pay10 T v q z p (ix2 r ⟨s.val, by omega⟩) := by
  unfold k0_pay12
  generalize k0_pay10 T v q z p = u
  pointwise
  by_cases h : s.val < 4
  · rw [dif_pos h, dif_pos h]
  · rw [dif_neg h, dif_neg h]
    exact congrArg u (congrArg (ix2 r) (Fin.ext (by dsimp only; omega)))

theorem grow_apply (s : Fin 8) (r : Fin 1024) : out0_10 (F := Ideal) x0 x1 x2 x3 x4 (ix3 0 s r)
    = if h : s.val < 4 then cols (k0_pay15 x0 x1 x2 x3 x4) r ⟨s.val, by omega⟩ - cols (k0_pay15 x0 x1 x2 x3 x4) r ⟨4 + s.val, by omega⟩
      else cols (k0_pay15 x0 x1 x2 x3 x4) r ⟨s.val, by omega⟩ := by
  unfold out0_10 k0_pay18 k0_pay17 k0_pay16 k0_pay14
  rw [View.canon_unit_zero hz3]
  generalize k0_pay15 x0 x1 x2 x3 x4 = v
  rw [turned_apply]
  by_cases h : s.val < 4
  · rw [dif_pos h, dif_pos h, cols_eq, cols_eq]
  · rw [dif_neg h, dif_neg h, cols_eq]

theorem emb10 (t : Fin cfg0.N) (s : Fin 8) (r : Fin 1024) : (win0_10.blk t).view.emb (ix3 0 s r)
    = ix3 ⟨t.val / 4, by have h : t.val < 32 := lt_of_lt_of_eq t.isLt (by decide +kernel); omega⟩ s ⟨t.val % 4 * 1024 + r.val, by omega⟩ := by
  blk_ext! [idx t]

theorem Grow_apply (x : FVec Ideal S8x4096x1024 .f32) (g : FVec Ideal S1024 .f32) (w : FVec Ideal S1024x3080 .f32) (b : FVec Ideal S8 .f32)
    (a : Fin 8) (s : Fin 8) (q : Fin 4096) : Grow x g w b (ix3 a s q) = grow x g w b ⟨a.val * 4096 + q.val, by omega⟩ s := rfl

theorem final10 (c : Dev nD) : (dats m 0 c).arrAt 10 cfg0.N
    = Grow (m ((c : Thread nD τ).loc main_arg0)) (m ((c : Thread nD τ).loc main_arg1)) (m ((c : Thread nD τ).loc main_arg2))
        (m ((c : Thread nD τ).loc main_arg3)) := by
  refine (dats m 0 c).arrAt_eq_of_covers 10 _ (by decide +kernel) fun t hf y => ?_
  blk_simp
  rw [after0_10]
  obtain ⟨s, r, rfl⟩ : ∃ (s : Fin 8) (r : Fin 1024), y = ix3 0 s r := ⟨y 1, y 2, by
    refine Eq.trans (ix3_eta y).symm ?_
    exact congrArg (fun q : Fin 1 => (ix3 q (y 1) (y 2) : S1x8x1024.Idx)) (Subsingleton.elim (α := Fin 1) _ _)⟩
  rw [grow_apply, emb10, Grow_apply]
  have e : (⟨(⟨t.val / 4, by have h : t.val < 32 := lt_of_lt_of_eq t.isLt (by decide +kernel); omega⟩ : Fin 8).val * 4096
      + (⟨t.val % 4 * 1024 + r.val, by omega⟩ : Fin 4096).val, by
        have h : t.val < 32 := lt_of_lt_of_eq t.isLt (by decide +kernel)
        dsimp only
        omega⟩ : Fin 32768) = rowN t r := by
    refine Fin.ext ?_
    unfold rowN
    dsimp only
    omega
  rw [e]
  unfold grow
  by_cases h : s.val < 4
  · rw [dif_pos h, dif_pos h, cols_read, cols_read]
    unfold gcol
    rw [dif_pos h, dif_neg (by dsimp only; omega), dif_pos (by dsimp only; omega)]
  · rw [dif_neg h, dif_neg h, cols_read]
    unfold gcol
    rw [dif_neg h, dif_pos s.isLt]

end Cert.ProjIdeal.Hand
end
-- ==== Proof.ProjWin.lean ====
/- The projections: the reference's gate results. -/
module

public import proofs.«01_k».proof.Proof.ProjRef
public import proofs.«01_k».proof.Proof.ProjRows
public import proofs.«01_k».proof.Proof.Spec
public import Idealize.ShloMosaic.Lib.ValueIdx
public import Idealize.ShloMosaic.Lib.Pipeline.ValueKit.Point
public import Idealize.ShloMosaic.Lib.Tactic
public import Idealize.ShloMosaic.Lib.Claim
public import Idealize.ShloMosaic.Lib.Routing.OpsPair

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)
open Cert.Spec

variable (x : FVec Ideal S8x4096x1024 .f32) (g : FVec Ideal S1024 .f32) (w : FVec Ideal S1024x3080 .f32) (b : FVec Ideal S8 .f32)

open Cert.ProjRefIdeal.Read

theorem fold_sum {n : Nat} (f : Fin n → EReal) (v : EReal) : (List.finRange n).foldl (fun r i => r + f i) v = v + ∑ i, f i := by
  rw [Fin.sum_univ_def]
  generalize List.finRange n = l
  induction l generalizing v with
  | nil => simp
  | cons a l ih => rw [List.foldl_cons, ih, List.map_cons, List.sum_cons, add_assoc]

/-- The element a padded window of 128 rows reads at place `i`. -/
def winTerm (y : FVec Ideal Cert.ProjRefIdeal.S256x128x4 .f32) (v : EReal) (a : Fin 256) (j : Fin 128) (l : Fin 4) (i : Shape.Idx ⟨3, ![1, 128, 1]⟩) : EReal :=
  if hin : ∀ q : Fin 3, (![0, 127, 0] : Fin 3 → Nat) q ≤ ((ix3 a j l : Cert.ProjRefIdeal.S256x128x4.Idx) q).val * (![1, 1, 1] : Fin 3 → Nat) q + (i q).val
      ∧ ((ix3 a j l : Cert.ProjRefIdeal.S256x128x4.Idx) q).val * (![1, 1, 1] : Fin 3 → Nat) q + (i q).val - (![0, 127, 0] : Fin 3 → Nat) q < Cert.ProjRefIdeal.S256x128x4.size q
    then y (fun q => ⟨((ix3 a j l : Cert.ProjRefIdeal.S256x128x4.Idx) q).val * (![1, 1, 1] : Fin 3 → Nat) q + (i q).val - (![0, 127, 0] : Fin 3 → Nat) q, (hin q).2⟩) else v

theorem winTerm_apply (y : FVec Ideal Cert.ProjRefIdeal.S256x128x4 .f32) (v : EReal) (a : Fin 256) (j : Fin 128) (l : Fin 4) (k : Fin 128) :
    winTerm y v a j l (ix3 (0 : Fin 1) k (0 : Fin 1)) = if h : 127 ≤ j.val + k.val then y (ix3 a ⟨j.val + k.val - 127, by omega⟩ l) else v := by
  unfold winTerm
  have ha := a.isLt
  have hj := j.isLt
  have hl := l.isLt
  have hk := k.isLt
  by_cases h : 127 ≤ j.val + k.val
  · rw [dif_pos h, dif_pos ?_]
    · refine congrArg y (funext fun q => Fin.ext ?_)
      fin_cases q
      · show a.val * 1 + 0 - 0 = a.val
        omega
      · show j.val * 1 + k.val - 127 = j.val + k.val - 127
        omega
      · show l.val * 1 + 0 - 0 = l.val
        omega
    · intro q
      fin_cases q
      · show 0 ≤ a.val * 1 + 0 ∧ a.val * 1 + 0 - 0 < 256
        omega
      · show 127 ≤ j.val * 1 + k.val ∧ j.val * 1 + k.val - 127 < 128
        omega
      · show 0 ≤ l.val * 1 + 0 ∧ l.val * 1 + 0 - 0 < 4
        omega
  · rw [dif_neg h, dif_neg ?_]
    intro hq
    have h1 : 127 ≤ j.val * 1 + k.val := (hq 1).1
    omega

def winEquiv : Fin 128 ≃ Shape.Idx ⟨3, ![1, 128, 1]⟩ where
  toFun k := ix3 (0 : Fin 1) k (0 : Fin 1)
  invFun i := i 1
  left_inv _ := rfl
  right_inv i := by
    funext q
    fin_cases q
    · exact Subsingleton.elim (α := Fin 1) _ _
    · rfl
    · exact Subsingleton.elim (α := Fin 1) _ _

/-- A padded window sum of 128 rows is the sum of the rows so far. -/
theorem window_sum (y : FVec Ideal Cert.ProjRefIdeal.S256x128x4 .f32) (a : Fin 256) (j : Fin 128) (l : Fin 4)
    (h : Shape.ReduceWindows Cert.ProjRefIdeal.S256x128x4 ![1, 128, 1] ![1, 1, 1] ![0, 127, 0] ![0, 0, 0] Cert.ProjRefIdeal.S256x128x4) (hu : 0 < Cert.ProjRefIdeal.S_.numel) :
    Host.reduceWindowAdd (F := Ideal) ![1, 128, 1] ![1, 1, 1] ![0, 127, 0] ![0, 0, 0] y (val_main_call1_call0_v0 (F := Ideal))
        h hu (ix3 a j l)
      = ∑ k : Fin 128, if k.val ≤ j.val then y (ix3 a k l) else 0 := by
  have hv : (val_main_call1_call0_v0 (F := Ideal)) (Shape.Idx.first hu) = (0 : EReal) := by
    pointwise [val_main_call1_call0_v0, val_main_call1_call0_cst]
  show Host.reduceWindow (α := EReal) (fun p q => p + q) ![1, 128, 1] ![1, 1, 1] ![0, 127, 0] ![0, 0, 0] y (val_main_call1_call0_v0 (F := Ideal)) h hu (ix3 a j l) = _
  generalize val_main_call1_call0_v0 (F := Ideal) = v0 at hv ⊢
  unfold Host.reduceWindow
  dsimp only
  rw [hv, fold_sum, zero_add]
  refine Eq.trans (b := ∑ n, winTerm y 0 a j l ((Shape.rowMajor ⟨3, ![1, 128, 1]⟩).symm n))
    (Finset.sum_congr rfl fun n _ => dite_congr rfl (fun _ => rfl) (fun _ => rfl)) ?_
  refine (Equiv.sum_comp (Shape.rowMajor ⟨3, ![1, 128, 1]⟩).symm (winTerm y 0 a j l)).trans ?_
  rw [← Equiv.sum_comp winEquiv]
  refine (Finset.sum_congr rfl fun k _ => winTerm_apply y 0 a j l k).trans ?_
  have hj := j.isLt
  refine Finset.sum_bij_ne_zero (fun k _ hk => (⟨j.val + k.val - 127, by have := k.isLt; omega⟩ : Fin 128)) (fun _ _ _ => Finset.mem_univ _) ?_ ?_ ?_
  · intro k1 _ h1 k2 _ h2 e
    have c1 : 127 ≤ j.val + k1.val := by by_contra c; exact h1 (dif_neg c)
    have c2 : 127 ≤ j.val + k2.val := by by_contra c; exact h2 (dif_neg c)
    have e' := congrArg Fin.val e
    dsimp only at e'
    exact Fin.ext (by omega)
  · intro k _ hk
    have c : k.val ≤ j.val := by by_contra c; exact hk (if_neg c)
    have hlt := k.isLt
    refine ⟨⟨k.val + 127 - j.val, by omega⟩, Finset.mem_univ _, ?_, ?_⟩
    · rw [dif_pos (by dsimp only; omega)]
      rw [if_pos c] at hk
      intro h0
      refine hk (Eq.trans (congrArg y ?_) h0)
      refine congrArg (fun q => ix3 a q l) (Fin.ext ?_)
      dsimp only
      omega
    · refine Fin.ext ?_
      dsimp only
      omega
  · intro k _ hk
    have c : 127 ≤ j.val + k.val := by by_contra c; exact hk (dif_neg c)
    rw [dif_pos c, if_pos (by dsimp only; have := k.isLt; omega)]

theorem gate_ref (n : Fin 32768) (l : Fin 8) : val_main_v22 (F := Ideal) x g w b (ix2 n l) = gate x g w b n l := by
  unfold gate
  rw [← prod_ref]
  pointwise [val_main_v22, val_main_v21, val_main_v20, val_main_v19]

theorem logSig_ref (n : Fin 32768) (l : Fin 4) : val_main_v25 (F := Ideal) x g w b (ix2 n l) = logSig (gate x g w b n ⟨4 + l.val, by omega⟩) := by
  rw [← gate_ref]
  pointwise [val_main_v25, val_main_call0_v1, val_main_call0_v0, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst, val_main_v24, logSig]
  rw [if_neg fun h => h rfl]
  rfl

theorem csum_ref (n : Fin 32768) (l : Fin 4) : val_main_v28 (F := Ideal) x g w b (ix2 n l) = csum x g w b n ⟨4 + l.val, by omega⟩ := by
  unfold csum val_main_v28
  simp only [← logSig_ref]
  pointwise
  unfold val_main_v27
  refine (window_sum _ _ _ _ _ _).trans (Finset.sum_congr rfl fun k _ => if_congr Iff.rfl ?_ rfl)
  rw [val_main_v26]
  pointwise

theorem cols_ref : val_main_v30 (F := Ideal) x g w b = Gcol x g w b := by
  funext i
  obtain ⟨n, l, rfl⟩ : ∃ (n : Fin 32768) (l : Fin 128), i = ix2 n l := ⟨i 0, i 1, (ix2_eta i).symm⟩
  rw [Gcol_apply]
  pointwise [val_main_v30, val_main_v29, val_main_v23, val_main_call2_v0, val_main_c]
  unfold gcol
  by_cases h4 : l.val < 4
  · rw [dif_pos (show l.val < 8 by omega), dif_pos h4, dif_pos h4, gate_ref]
  by_cases h8 : l.val < 8
  · rw [dif_pos h8, dif_neg h4, dif_neg h4, dif_pos h8, csum_ref]
    exact congrArg (csum x g w b n) (Fin.ext (by dsimp only; omega))
  · rw [dif_neg h8, dif_neg h4, dif_neg h8]
    show (((0#32 : BitVec 32).toInt : ℝ) : EReal) = 0
    simp

theorem rows_ref : val_main_v34 (F := Ideal) x g w b = Grow x g w b := by
  funext i
  obtain ⟨a, s, q, rfl⟩ : ∃ (a : Fin 8) (s : Fin 8) (q : Fin 4096), i = ix3 a s q := ⟨i 0, i 1, i 2, (ix3_eta i).symm⟩
  rw [Grow_apply]
  pointwise [val_main_v34, val_main_v33, val_main_v32, val_main_v31, val_main_v23]
  unfold grow
  by_cases h : s.val < 4
  · rw [dif_pos h, dif_pos h, gate_ref, csum_ref]
  · rw [dif_neg h, dif_neg h, csum_ref]
    exact congrArg (csum x g w b _) (Fin.ext (by dsimp only; omega))

end Cert.ProjIdeal.Hand
end
-- ==== Proof.ProjClaim.lean ====
/- The projections: the claim. -/
module

public import proofs.«01_k».proof.Proof.ProjWin
public import proofs.«01_k».proof.Defs
public import proofs.«01_k».proof.Proof.Spec
public import Idealize.ShloMosaic.Lib.ValueIdx
public import Idealize.ShloMosaic.Lib.Pipeline.ValueKit.Point
public import Idealize.ShloMosaic.Lib.Tactic
public import Idealize.ShloMosaic.Lib.Claim
public import Idealize.ShloMosaic.Lib.Routing.OpsPair

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)
open Cert.Spec

set_option maxHeartbeats 4000000 in
/-- The projection call computes the reference over the reals. -/
theorem claim : Cert.algebraic_ProjIdeal_ProjRefIdeal := by
  intro m g m' g' _ hagree
  refine ⟨fun c => Gq (m ((c : Thread nD τ).loc main_arg0)) (m ((c : Thread nD τ).loc main_arg1)) (m ((c : Thread nD τ).loc main_arg2)),
    fun c => Gk (m ((c : Thread nD τ).loc main_arg0)) (m ((c : Thread nD τ).loc main_arg1)) (m ((c : Thread nD τ).loc main_arg2)),
    fun c => Gv (m ((c : Thread nD τ).loc main_arg0)) (m ((c : Thread nD τ).loc main_arg1)) (m ((c : Thread nD τ).loc main_arg2)),
    fun c => Go (m ((c : Thread nD τ).loc main_arg0)) (m ((c : Thread nD τ).loc main_arg1)) (m ((c : Thread nD τ).loc main_arg2)),
    fun c => Gcol (m ((c : Thread nD τ).loc main_arg0)) (m ((c : Thread nD τ).loc main_arg1)) (m ((c : Thread nD τ).loc main_arg2))
        (m ((c : Thread nD τ).loc main_arg3)),
    fun c => Grow (m ((c : Thread nD τ).loc main_arg0)) (m ((c : Thread nD τ).loc main_arg1)) (m ((c : Thread nD τ).loc main_arg2))
        (m ((c : Thread nD τ).loc main_arg3)), ?_, ?_⟩
  · run_from Cert.ProjIdeal.Value.run_blocks m g
    · exact final5 m _
    · exact final6 m _
    · exact final7 m _
    · exact final8 m _
    · exact final9 m _
    · exact final10 m _
  · run_from Cert.ProjRefIdeal.Value.run m' g'
    · exact q_ref _ _ _
    · exact k_ref _ _ _
    · exact v_ref _ _ _
    · exact o_ref _ _ _
    · rename_i c
      exact (Cert.ProjRefIdeal.Read.val_main_v30_eq m' c).trans ((cols_ref _ _ _ _).trans
        (congr (congr (congr (congrArg Gcol (hagree c).1) (hagree c).2.1) (hagree c).2.2.1) (hagree c).2.2.2))
    · rename_i c
      exact (Cert.ProjRefIdeal.Read.val_main_v34_eq m' c).trans ((rows_ref _ _ _ _).trans
        (congr (congr (congr (congrArg Grow (hagree c).1) (hagree c).2.1) (hagree c).2.2.1) (hagree c).2.2.2))

end Cert.ProjIdeal.Hand
end
-- ==== Proof.Softmax.lean ====
module

public import Idealize.ShloMosaic.Lib.ValueIdx
public import Idealize.ShloMosaic.Lib.Pipeline.ValueKit.Point
public import Idealize.ShloMosaic.Lib.Tactic

@[expose] public section

noncomputable section

namespace Cert.Spec

open Idealize.ShloMosaic

/-- The larger of a row of scores' maximum and the sink logit. -/
def peak (s : Fin 256 → EReal) (z : EReal) : EReal :=
  max (Finset.univ.fold max (Ideal.ofBits FTy.f32 0xFF800000#32) s) z

/-- The softmax's denominator, the sink's weight among it. -/
def mass (s : Fin 256 → EReal) (z : EReal) : EReal :=
  ∑ κ, Ideal.exp (s κ - peak s z) + Ideal.exp (z - peak s z)

/-- The weighted sum of the values, divided at the end. -/
def late (s : Fin 256 → EReal) (z : EReal) (v : Fin 256 → EReal) : EReal :=
  Ideal.div (∑ κ, v κ * Ideal.exp (s κ - peak s z)) (mass s z)

/-- The values' sum under the normalised weights. -/
def soft (s : Fin 256 → EReal) (z : EReal) (v : Fin 256 → EReal) : EReal :=
  ∑ κ, Ideal.div (Ideal.exp (s κ - peak s z)) (mass s z) * v κ

theorem fold_max_ne_top {ι : Type} (S : Finset ι) (b : EReal) (hb : b ≠ ⊤) (s : ι → EReal) (hs : ∀ i, s i ≠ ⊤) :
    S.fold max b s ≠ ⊤ := by
  classical
  induction S using Finset.induction_on with
  | empty => simpa using hb
  | insert a S ha ih =>
    rw [Finset.fold_insert ha]
    exact (max_lt (lt_top_iff_ne_top.mpr (hs a)) (lt_top_iff_ne_top.mpr ih)).ne

theorem le_fold_max {ι : Type} (S : Finset ι) (b : EReal) (s : ι → EReal) (i : ι) (hi : i ∈ S) : s i ≤ S.fold max b s :=
  (Finset.le_fold_max _).mpr (Or.inr ⟨i, hi, le_rfl⟩)

theorem peak_real (s : Fin 256 → EReal) (hs : ∀ κ, s κ ≠ ⊤) (z : ℝ) : ∃ p : ℝ, peak s z = p := by
  have h1 : peak s z ≠ ⊤ :=
    (max_lt (lt_top_iff_ne_top.mpr (fold_max_ne_top _ _ (by
      rw [show Ideal.ofBits FTy.f32 0xFF800000#32 = (⊥ : EReal) from by simp [Ideal.ofBits, Ideal.ieee]]; exact bot_ne_top) s hs))
      (EReal.coe_lt_top z)).ne
  have h2 : peak s z ≠ ⊥ := ((EReal.bot_lt_coe z).trans_le (le_max_right _ _)).ne'
  exact ⟨(peak s z).toReal, (EReal.coe_toReal h1 h2).symm⟩

theorem exp_nonneg_real (x : EReal) (hx : x ≠ ⊤) : ∃ r : ℝ, 0 ≤ r ∧ Ideal.exp x = r := by
  induction x with
  | bot => exact ⟨0, le_rfl, rfl⟩
  | coe x => exact ⟨Real.exp x, (Real.exp_pos x).le, rfl⟩
  | top => exact absurd rfl hx

theorem sub_ne_top (x : EReal) (hx : x ≠ ⊤) (p : ℝ) : x - (p : EReal) ≠ ⊤ := by
  induction x with
  | bot => simp
  | coe x => rw [← EReal.coe_sub]; exact EReal.coe_ne_top _
  | top => exact absurd rfl hx

theorem sum_coe {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

theorem mass_real (s : Fin 256 → EReal) (hs : ∀ κ, s κ ≠ ⊤) (z : ℝ) : ∃ d : ℝ, 0 < d ∧ mass s z = d := by
  obtain ⟨p, hp⟩ := peak_real s hs z
  choose e he0 he using fun κ => exp_nonneg_real (s κ - p) (sub_ne_top _ (hs κ) p)
  refine ⟨∑ κ, e κ + Real.exp (z - p), add_pos_of_nonneg_of_pos (Finset.sum_nonneg fun κ _ => he0 κ) (Real.exp_pos _), ?_⟩
  rw [mass, hp]
  simp only [he]
  rw [sum_coe, EReal.coe_add, ← EReal.coe_sub]
  rfl

theorem mul_sum_coe {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih]
    exact EReal.right_distrib_of_nonneg_of_ne_top (EReal.coe_nonneg.mpr hr) (EReal.coe_ne_top r) _ _

/-- With no score infinite upwards and a real sink logit, dividing the sum is dividing the weights. -/
theorem late_eq_soft (s : Fin 256 → EReal) (hs : ∀ κ, s κ ≠ ⊤) (z : EReal) (h1 : z ≠ ⊤) (h2 : z ≠ ⊥) (v : Fin 256 → EReal) :
    late s z v = soft s z v := by
  lift z to ℝ using ⟨h1, h2⟩
  obtain ⟨d, hd, e⟩ := mass_real s hs z
  unfold late soft
  rw [e]
  have hd' : (d : EReal) ≠ 0 := by exact_mod_cast hd.ne'
  simp only [Ideal.div, if_neg hd']
  rw [← EReal.coe_inv, mul_sum_coe _ _ _ (inv_nonneg.mpr hd.le)]
  exact Finset.sum_congr rfl fun κ _ => by rw [mul_assoc, mul_comm]

end Cert.Spec
-- ==== Proof.AttnSpec.lean ====
/- The attention call: its result array over the argument arrays, one row at a time. -/
module

public import proofs.«01_k».proof.Proof.Softmax
public import proofs.«01_k».proof.Proof.Spec
public import proofs.«01_k».proof.Proof.Gen.KernelIdeal.Value
public import Idealize.ShloMosaic.Lib.ValueIdx

@[expose] public section

noncomputable section

namespace Cert.KernelIdeal.Hand

open Cert.KernelIdeal
open Idealize.ShloMosaic
open Cert.Spec

/-- The query row `n` sees key `κ` of its band of 256: within the window, and not before the sequence begins. -/
abbrev Seen (n : Fin 32768) (κ : Fin 256) : Prop :=
  (κ.val ≤ n.val % 128 + 128 ∧ n.val % 128 < κ.val) ∧ (128 ≤ n.val % 4096 ∨ 128 ≤ κ.val)

/-- The position within its sequence of key `κ` of the band of row `n`. -/
def keyPos (n : Fin 32768) (κ : Fin 256) : Fin 4096 := ⟨n.val % 4096 / 128 * 128 + κ.val - 128, by omega⟩

/-- The sequence of row `n`. -/
def seqOf (n : Fin 32768) : Fin 8 := ⟨n.val / 4096, by omega⟩

/-- The score of key `κ` for row `n` and head `h`. -/
def scoreAt (q : FVec Ideal S32768x1024 .bf16) (k : FVec Ideal S8x4096x4x64 .f32) (b : FVec Ideal S16x128x256 .f32)
    (n : Fin 32768) (h : Fin 16) (κ : Fin 256) : EReal :=
  if Seen n κ then
    (∑ d : Fin 64, k (ix4 (seqOf n) (keyPos n κ) ⟨h.val / 4, by omega⟩ d) * q (ix2 n ⟨64 * h.val + d.val, by omega⟩))
      + b (ix3 h ⟨n.val % 128, by omega⟩ κ)
  else ⊥

/-- Coordinate `d` of the value of key `κ` for row `n` and head `h`. -/
def valueAt (v : FVec Ideal S8x4096x4x64 .f32) (n : Fin 32768) (h : Fin 16) (d : Fin 64) (κ : Fin 256) : EReal :=
  v (ix4 (seqOf n) (keyPos n κ) ⟨h.val / 4, by omega⟩ d)

/-- Column `l` of the attention's row `n`: head `l / 64`, coordinate `l % 64`. -/
def attn (q : FVec Ideal S32768x1024 .bf16) (k v : FVec Ideal S8x4096x4x64 .f32) (b : FVec Ideal S16x128x256 .f32)
    (z : FVec Ideal S16 .f32) (n : Fin 32768) (l : Fin 1024) : EReal :=
  late (scoreAt q k b n ⟨l.val / 64, by omega⟩) (z (ix1 ⟨l.val / 64, by omega⟩))
    (valueAt v n ⟨l.val / 64, by omega⟩ ⟨l.val % 64, by omega⟩)

/-- The residual sum of the attention's output product. -/
def resid (x : FVec Ideal S32768x1024 .f32) (q : FVec Ideal S32768x1024 .bf16) (k v : FVec Ideal S8x4096x4x64 .f32)
    (b : FVec Ideal S16x128x256 .f32) (z : FVec Ideal S16 .f32) (wo : FVec Ideal S1024x1024 .f32) (n : Fin 32768) (e : Fin 1024) : EReal :=
  x (ix2 n e) + ∑ l : Fin 1024, attn q k v b z n l * wo (ix2 l e)

/-- The result array. -/
def G (x : FVec Ideal S32768x1024 .f32) (q : FVec Ideal S32768x1024 .bf16) (k v : FVec Ideal S8x4096x4x64 .f32)
    (b : FVec Ideal S16x128x256 .f32) (z : FVec Ideal S16 .f32) (wo : FVec Ideal S1024x1024 .f32) (g : FVec Ideal S1024 .f32)
    (w : FVec Ideal S1024x5632 .f32) (wd : FVec Ideal S2816x1024 .f32) : FVec Ideal S32768x1024 .f32 := fun i =>
  ffn (resid x q k v b z wo (i 0)) (fun e => g (ix1 e)) (fun f d => w (ix2 d (gateSrc f)))
    (fun f d => w (ix2 d (upSrc f))) (fun f j => wd (ix2 f j)) (i 1)

/-- A key of weight zero may have any value. -/
theorem late_congr {s s' : Fin 256 → EReal} {z z' : EReal} {v v' : Fin 256 → EReal} (hs : ∀ κ, s' κ = s κ) (hz : z' = z)
    (hv : ∀ κ, s κ ≠ ⊥ → v' κ = v κ) : late s' z' v' = late s z v := by
  obtain rfl : s' = s := funext hs
  subst hz
  unfold late
  refine congrArg (fun a => Ideal.div a _) (Finset.sum_congr rfl fun κ _ => ?_)
  by_cases h : s' κ = ⊥
  · have e : Ideal.exp (s' κ - peak s' z') = 0 := by
      rw [h, sub_eq_add_neg, EReal.bot_add]
      rfl
    rw [e, mul_zero, mul_zero]
  · rw [hv κ h]

end Cert.KernelIdeal.Hand
end
-- ==== Proof.AttnSlot.lean ====
/- One slot of the attention kernel: two query heads of a 128-row block against the 256 keys of its band. -/
module

public import proofs.«01_k».proof.Proof.Gen.KernelIdeal.Value
public import proofs.«01_k».proof.Proof.Softmax
public import Idealize.ShloMosaic.Lib.ValueIdx
public import Idealize.ShloMosaic.Lib.Pipeline.ValueKit.Point
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe
open Cert.Spec

/-- A band of 256 from its two halves of 128. -/
def band (a b : Fin 128 → EReal) (κ : Fin 256) : EReal :=
  if h : κ.val < 128 then a ⟨κ.val, h⟩ else b ⟨κ.val - 128, by omega⟩

theorem band_lo (a b : Fin 128 → EReal) (x : Fin 128) (h : x.val < 256) : band a b ⟨x.val, h⟩ = a x := dif_pos x.isLt

theorem band_hi (a b : Fin 128 → EReal) (x : Fin 128) (h : 128 + x.val < 256) : band a b ⟨128 + x.val, h⟩ = b x := by
  unfold band
  rw [dif_neg (by dsimp only; omega)]
  exact congrArg b (Fin.ext (Nat.add_sub_cancel_left _ _))

theorem sum_band (f : Fin 256 → EReal) :
    ∑ κ, f κ = ∑ x : Fin 128, f ⟨x.val, by omega⟩ + ∑ x : Fin 128, f ⟨128 + x.val, by omega⟩ :=
  Fin.sum_univ_add (M := EReal) (a := 128) (b := 128) f

/-- A row of 128 lanes kept on one half only sums over that half. -/
theorem sum_half (f : Fin 128 → EReal) (p : Fin 2) (h : ∀ l : Fin 128, l.val / 64 ≠ p.val → f l = 0) :
    ∑ l, f l = ∑ d : Fin 64, f ⟨64 * p.val + d.val, by omega⟩ := by
  have e := Fin.sum_univ_add (M := EReal) (a := 64) (b := 64) f
  have z (q : Fin 2) (hq : q ≠ p) : ∑ d : Fin 64, f ⟨64 * q.val + d.val, by omega⟩ = 0 :=
    Finset.sum_eq_zero fun d _ => h _ fun e => hq (Fin.ext (by rw [← e]; dsimp only; omega))
  have e' : ∑ l, f l = ∑ d : Fin 64, f ⟨64 * 0 + d.val, by omega⟩ + ∑ d : Fin 64, f ⟨64 * 1 + d.val, by omega⟩ := by
    refine e.trans (congrArg₂ _ (Finset.sum_congr rfl fun d _ => congrArg f (Fin.ext ?_))
      (Finset.sum_congr rfl fun d _ => congrArg f (Fin.ext ?_)))
    · simp
    · simp [add_comm]
  match p, z with
  | 0, z => exact e'.trans ((congrArg _ (z 1 (by decide))).trans (add_zero _))
  | 1, z => exact e'.trans ((congrArg (· + _) (z 0 (by decide))).trans (zero_add _))

/-- The word of a lane compares against the half's bound as the lane does. -/
theorem lane_lt (n k : Nat) (hn : n < 512) (hk : k < 512) {α : Type} (a b : α) :
    Scalar.select (IntOp.cmpi .slt (BitVec.ofNat 32 n) (BitVec.ofNat 32 k)) a b = if n < k then a else b := by
  have e : (BitVec.ofNat 32 n).slt (BitVec.ofNat 32 k) = decide (n < k) := by
    have h1 : (BitVec.ofNat 32 n).toInt = n := by
      rw [BitVec.toInt_eq_toNat_cond, BitVec.toNat_ofNat]; omega
    have h2 : (BitVec.ofNat 32 k).toInt = k := by
      rw [BitVec.toInt_eq_toNat_cond, BitVec.toNat_ofNat]; omega
    rw [BitVec.slt_eq_decide, h1, h2]
    exact decide_eq_decide.mpr Int.ofNat_lt
  by_cases h : n < k <;> simp [Scalar.select, IntOp.cmpi, e, h]

/-- A query lane: head `c / 128` of the slot keeps its own half of the 128 lanes. -/
def lane (q : Vec Ideal S128x128 .bf16) (c : Fin 256) (l : Fin 128) : EReal :=
  if h : c.val < 128 then
    Scalar.select (IntOp.cmpi .slt (BitVec.ofNat 32 l.val) 64#32) (q (ix2 ⟨c.val, h⟩ l)) 0
  else Scalar.select (IntOp.cmpi .slt (BitVec.ofNat 32 l.val) 64#32) 0 (q (ix2 ⟨c.val - 128, by omega⟩ l))

theorem lane_eq (q : Vec Ideal S128x128 .bf16) (c : Fin 256) (l : Fin 128) :
    lane q c l = if l.val / 64 = c.val / 128 then q (ix2 ⟨c.val % 128, by omega⟩ l) else 0 := by
  unfold lane
  by_cases hc : c.val < 128
  · have e : (⟨c.val, hc⟩ : Fin 128) = ⟨c.val % 128, by omega⟩ := Fin.ext (by dsimp only; omega)
    rw [dif_pos hc, e, lane_lt _ 64 (by omega) (by omega)]
    exact if_congr (by omega) rfl rfl
  · have e : (⟨c.val - 128, by omega⟩ : Fin 128) = ⟨c.val % 128, by omega⟩ := Fin.ext (by dsimp only; omega)
    rw [dif_neg hc, e, lane_lt _ 64 (by omega) (by omega)]
    by_cases hl : l.val < 64
    · rw [if_pos hl, if_neg (by omega)]
    · rw [if_neg hl, if_pos (by omega)]

theorem score_lanes (kp ko : Vec Ideal S128x128 .f32) (q : Vec Ideal S128x128 .bf16) (b : Vec Ideal S1x1x256x256 .f32)
    (κ c : Fin 256) :
    k0_pay19 k0_pay2 kp ko q b (ix2 κ c)
      = (∑ l : Fin 128, band (fun x => kp (ix2 x l)) (fun x => ko (ix2 x l)) κ * lane q c l) + b (ix4 0 0 κ c) := by
  pointwise [k0_pay19, k0_pay17, k0_pay2, band, lane]

/-- The score of key `κ` for query column `c` (head `c / 128` of the slot, row `c % 128`). -/
def score (kp ko : Vec Ideal S128x128 .f32) (q : Vec Ideal S128x128 .bf16) (b : Vec Ideal S1x1x256x256 .f32)
    (c κ : Fin 256) : EReal :=
  (∑ d : Fin 64, band (fun x => kp (ix2 x ⟨64 * (c.val / 128) + d.val, by omega⟩))
        (fun x => ko (ix2 x ⟨64 * (c.val / 128) + d.val, by omega⟩)) κ
      * q (ix2 ⟨c.val % 128, by omega⟩ ⟨64 * (c.val / 128) + d.val, by omega⟩))
    + b (ix4 0 0 κ c)

theorem score_apply (kp ko : Vec Ideal S128x128 .f32) (q : Vec Ideal S128x128 .bf16) (b : Vec Ideal S1x1x256x256 .f32)
    (κ c : Fin 256) : k0_pay19 k0_pay2 kp ko q b (ix2 κ c) = score kp ko q b c κ := by
  rw [score_lanes, sum_half _ ⟨c.val / 128, by omega⟩ (fun l hl => by
    rw [lane_eq, if_neg hl, mul_zero])]
  refine congrArg (· + _) (Finset.sum_congr rfl fun d _ => ?_)
  rw [lane_eq, if_pos (by dsimp only; omega)]

/-- One slot, from the blocks it loads. -/
def slot (s₁ s₂ : Elt Ideal .f32) (kp ko : Vec Ideal S128x128 .f32) (vp vo : Vec Ideal S1x64x128 .f32)
    (q : Vec Ideal S128x128 .bf16) (b : Vec Ideal S1x1x256x256 .f32) : FVec Ideal S64x256 .f32 :=
  k0_pay71 (k0_pay5 s₁ s₂) (k0_pay35 (k0_pay5 s₁ s₂) (k0_pay19 k0_pay2 kp ko q b))
    (k0_pay53 (k0_pay18 k0_pay4 vp vo)
      (k0_pay44 (k0_pay19 k0_pay2 kp ko q b) (k0_pay35 (k0_pay5 s₁ s₂) (k0_pay19 k0_pay2 kp ko q b))))

theorem slot_scores (z st : _) (vp vo : Vec Ideal S1x64x128 .f32) (d : Fin 64) (c : Fin 256) :
    k0_pay71 z (k0_pay35 z st) (k0_pay53 (k0_pay18 k0_pay4 vp vo) (k0_pay44 st (k0_pay35 z st))) (ix2 d c)
      = late (fun κ => st (ix2 κ c)) (z (ix2 0 c)) (band (fun x => vp (ix3 0 d x)) (fun x => vo (ix3 0 d x))) := by
  unfold late mass
  rw [sum_band]
  simp only [band_lo, band_hi]
  pointwise [k0_pay71, k0_pay35, k0_pay53, k0_pay18, k0_pay4, k0_pay44]
  rfl

theorem sinks_apply (s₁ s₂ : Elt Ideal .f32) (c : Fin 256) :
    k0_pay5 s₁ s₂ (ix2 0 c) = if c.val < 128 then s₁ else s₂ := by
  refine Eq.trans ?_ (lane_lt c.val 128 (by omega) (by omega) s₁ s₂)
  pointwise [k0_pay5, k0_pay3]

theorem slot_apply (s₁ s₂ : Elt Ideal .f32) (kp ko : Vec Ideal S128x128 .f32) (vp vo : Vec Ideal S1x64x128 .f32)
    (q : Vec Ideal S128x128 .bf16) (b : Vec Ideal S1x1x256x256 .f32) (d : Fin 64) (c : Fin 256) :
    slot s₁ s₂ kp ko vp vo q b (ix2 d c)
      = late (score kp ko q b c) (if c.val < 128 then s₁ else s₂)
          (band (fun x => vp (ix3 0 d x)) (fun x => vo (ix3 0 d x))) := by
  unfold slot
  rw [slot_scores, sinks_apply]
  simp only [score_apply]

end Cert.KernelIdeal.Hand
-- ==== Proof.AttnTile.lean ====
/- The heads of a block laid side by side, and the blocks a slot loads from its operands. -/
module

public import proofs.«01_k».proof.Proof.Gen.KernelIdeal.Value
public import proofs.«01_k».proof.Proof.AttnSlot
public import Idealize.ShloMosaic.Lib.ValueIdx
public import Idealize.ShloMosaic.Lib.Pipeline.ValueKit.Point
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

/-- Head `n` of a block, transposed: the left or the right half of its slot. -/
def head (h : Fin 8 → FVec Ideal S64x256 .f32) (n : Fin 16) : FVec Ideal S64x128 .f32 :=
  if n.val % 2 = 0 then extractStridedSlice S64x128 ![0, 0] (h ⟨n.val / 2, by omega⟩) slices_S64x256_o0_0_S64x128
  else extractStridedSlice S64x128 ![0, 128] (h ⟨n.val / 2, by omega⟩) slices_S64x256_o0_128_S64x128

theorem head_apply (h : Fin 8 → FVec Ideal S64x256 .f32) (n : Fin 16) (d : Fin 64) (r : Fin 128) :
    head h n (ix2 d r) = h ⟨n.val / 2, by omega⟩ (ix2 d ⟨128 * (n.val % 2) + r.val, by omega⟩) := by
  unfold head
  split_ifs with e
  · pointwise []
    congr 2
    exact Fin.ext (by dsimp only; omega)
  · pointwise []
    congr 2
    exact Fin.ext (by dsimp only; omega)

/-- The heads of a 128-row block side by side: slot `i` holds heads `2 i` and `2 i + 1`. -/
def tile (h : Fin 8 → FVec Ideal S64x256 .f32) : FVec Ideal S128x1024 .bf16 :=
  truncf .bf16 (transpose S128x1024 [1, 0] (concatenate S1024x128 0
    (List.ofFn fun n : Fin 16 => (⟨S64x128, head h n⟩ : (s : Shape) × (s.Idx → Elt Ideal .f32)))
    concatenates_S64x128_S64x128_S64x128_S64x128_S64x128_S64x128_S64x128_S64x128_S64x128_S64x128_S64x128_S64x128_S64x128_S64x128_S64x128_S64x128_S1024x128_d0) transposes_S1024x128_p1_0_S128x1024) bitsLt_bf16_f32

theorem tile_apply (h : Fin 8 → FVec Ideal S64x256 .f32) (r : Fin 128) (l : Fin 1024) :
    tile h (ix2 r l) = h ⟨l.val / 128, by omega⟩ (ix2 ⟨l.val % 64, by omega⟩ ⟨128 * (l.val / 64 % 2) + r.val, by omega⟩) := by
  have e : tile h (ix2 r l) = concatenate S1024x128 0
      (List.ofFn fun n : Fin 16 => (⟨S64x128, head h n⟩ : (s : Shape) × (s.Idx → Elt Ideal .f32)))
      concatenates_S64x128_S64x128_S64x128_S64x128_S64x128_S64x128_S64x128_S64x128_S64x128_S64x128_S64x128_S64x128_S64x128_S64x128_S64x128_S64x128_S1024x128_d0 (ix2 l r) := by
    unfold tile
    generalize concatenate S1024x128 0 _ _ = w
    pointwise []
  refine e.trans ((concatenate_ofFn_apply (t := S1024x128) (s₁ := S64x128) (0 : Fin 2) (head h) _ rfl 64 rfl
    (ix2 l r : S1024x128.Idx) ⟨l.val / 64, by omega⟩ rfl (ix2 ⟨l.val % 64, by omega⟩ r : S64x128.Idx) rfl
    (fun b hb => ?_)).trans ?_)
  · match b, hb with
    | 0, hb => exact absurd rfl hb
    | 1, _ => rfl
  · rw [head_apply]
    congr 1
    exact Fin.ext (by dsimp only; omega)

/-- The tile of eight slots, piece by piece. -/
theorem tile_of_slots (h : Fin 8 → FVec Ideal S64x256 .f32) (a0 a1 a2 a3 a4 a5 a6 a7 : FVec Ideal S64x256 .f32)
    (e0 : a0 = h 0) (e1 : a1 = h 1) (e2 : a2 = h 2) (e3 : a3 = h 3) (e4 : a4 = h 4) (e5 : a5 = h 5) (e6 : a6 = h 6) (e7 : a7 = h 7) :
    truncf .bf16 (transpose S128x1024 [1, 0] (concatenate S1024x128 0
      [ ⟨S64x128, extractStridedSlice S64x128 ![0, 0] a0 slices_S64x256_o0_0_S64x128⟩, ⟨S64x128, extractStridedSlice S64x128 ![0, 128] a0 slices_S64x256_o0_128_S64x128⟩,
        ⟨S64x128, extractStridedSlice S64x128 ![0, 0] a1 slices_S64x256_o0_0_S64x128⟩, ⟨S64x128, extractStridedSlice S64x128 ![0, 128] a1 slices_S64x256_o0_128_S64x128⟩,
        ⟨S64x128, extractStridedSlice S64x128 ![0, 0] a2 slices_S64x256_o0_0_S64x128⟩, ⟨S64x128, extractStridedSlice S64x128 ![0, 128] a2 slices_S64x256_o0_128_S64x128⟩,
        ⟨S64x128, extractStridedSlice S64x128 ![0, 0] a3 slices_S64x256_o0_0_S64x128⟩, ⟨S64x128, extractStridedSlice S64x128 ![0, 128] a3 slices_S64x256_o0_128_S64x128⟩,
        ⟨S64x128, extractStridedSlice S64x128 ![0, 0] a4 slices_S64x256_o0_0_S64x128⟩, ⟨S64x128, extractStridedSlice S64x128 ![0, 128] a4 slices_S64x256_o0_128_S64x128⟩,
        ⟨S64x128, extractStridedSlice S64x128 ![0, 0] a5 slices_S64x256_o0_0_S64x128⟩, ⟨S64x128, extractStridedSlice S64x128 ![0, 128] a5 slices_S64x256_o0_128_S64x128⟩,
        ⟨S64x128, extractStridedSlice S64x128 ![0, 0] a6 slices_S64x256_o0_0_S64x128⟩, ⟨S64x128, extractStridedSlice S64x128 ![0, 128] a6 slices_S64x256_o0_128_S64x128⟩,
        ⟨S64x128, extractStridedSlice S64x128 ![0, 0] a7 slices_S64x256_o0_0_S64x128⟩, ⟨S64x128, extractStridedSlice S64x128 ![0, 128] a7 slices_S64x256_o0_128_S64x128⟩]
      concatenates_S64x128_S64x128_S64x128_S64x128_S64x128_S64x128_S64x128_S64x128_S64x128_S64x128_S64x128_S64x128_S64x128_S64x128_S64x128_S64x128_S1024x128_d0) transposes_S1024x128_p1_0_S128x1024) bitsLt_bf16_f32 = tile h := by
  subst e0 e1 e2 e3 e4 e5 e6 e7
  rfl

/-- The 128 keys (or values' rows) number `j` of the band of 640 rows before and of a tile of 512. -/
def keys (xp : Vec Ideal S128x512 .f32) (xo : Vec Ideal S512x512 .f32) (j : Fin 5) (g : Fin 4) : Vec Ideal S128x128 .f32 :=
  if h : j.val = 0 then fun y => xp (ix2 ⟨(y 0).val, (y 0).isLt⟩ ⟨128 * g.val + (y 1).val, by have : (y 1).val < 128 := (y 1).isLt; omega⟩)
  else fun y => xo (ix2 ⟨128 * (j.val - 1) + (y 0).val, by have : (y 0).val < 128 := (y 0).isLt; omega⟩
    ⟨128 * g.val + (y 1).val, by have : (y 1).val < 128 := (y 1).isLt; omega⟩)

/-- The transposed values of those rows. -/
def vals (xp : Vec Ideal S1x256x128 .f32) (xo : Vec Ideal S1x256x512 .f32) (j : Fin 5) (g : Fin 4) : Vec Ideal S1x64x128 .f32 :=
  if h : j.val = 0 then fun y => xp (ix3 0 ⟨64 * g.val + (y 1).val, by have : (y 1).val < 64 := (y 1).isLt; omega⟩ ⟨(y 2).val, (y 2).isLt⟩)
  else fun y => xo (ix3 0 ⟨64 * g.val + (y 1).val, by have : (y 1).val < 64 := (y 1).isLt; omega⟩
    ⟨128 * (j.val - 1) + (y 2).val, by have : (y 2).val < 128 := (y 2).isLt; omega⟩)

def query (x : Vec Ideal S512x1024 .bf16) (j : Fin 4) (i : Fin 8) : Vec Ideal S128x128 .bf16 := fun y =>
  x (ix2 ⟨128 * j.val + (y 0).val, by have : (y 0).val < 128 := (y 0).isLt; omega⟩
    ⟨128 * i.val + (y 1).val, by have : (y 1).val < 128 := (y 1).isLt; omega⟩)

def biasAt (x : Vec Ideal S2x8x256x256 .f32) (w : Fin 2) (i : Fin 8) : Vec Ideal S1x1x256x256 .f32 := fun y =>
  x (ix4 w i ⟨(y 2).val, (y 2).isLt⟩ ⟨(y 3).val, (y 3).isLt⟩)

/-- Slot `i` of block `j` of a tile, from the operands' blocks; `w` is the bias variant. -/
def slotOf (x0 : Vec Ideal S16 .f32) (x1 : Vec Ideal S512x1024 .bf16) (x2 : Vec Ideal S128x512 .f32)
    (x3 : Vec Ideal S512x512 .f32) (x4 : Vec Ideal S1x256x128 .f32) (x5 : Vec Ideal S1x256x512 .f32)
    (x6 : Vec Ideal S2x8x256x256 .f32) (j : Fin 4) (w : Fin 2) (i : Fin 8) : FVec Ideal S64x256 .f32 :=
  slot (x0 (ix1 ⟨2 * i.val, by omega⟩)) (x0 (ix1 ⟨2 * i.val + 1, by omega⟩))
    (keys x2 x3 ⟨j.val, by omega⟩ ⟨i.val / 2, by omega⟩) (keys x2 x3 ⟨j.val + 1, by omega⟩ ⟨i.val / 2, by omega⟩)
    (vals x4 x5 ⟨j.val, by omega⟩ ⟨i.val / 2, by omega⟩) (vals x4 x5 ⟨j.val + 1, by omega⟩ ⟨i.val / 2, by omega⟩)
    (query x1 j i) (biasAt x6 w i)

theorem slotOf_of_eq {x0 : Vec Ideal S16 .f32} {x1 : Vec Ideal S512x1024 .bf16} {x2 : Vec Ideal S128x512 .f32}
    {x3 : Vec Ideal S512x512 .f32} {x4 : Vec Ideal S1x256x128 .f32} {x5 : Vec Ideal S1x256x512 .f32}
    {x6 : Vec Ideal S2x8x256x256 .f32} {j : Fin 4} {w : Fin 2} {i : Fin 8}
    {s₁ s₂ : Elt Ideal .f32} {kp ko : Vec Ideal S128x128 .f32} {vp vo : Vec Ideal S1x64x128 .f32}
    {q : Vec Ideal S128x128 .bf16} {b : Vec Ideal S1x1x256x256 .f32}
    (h₁ : s₁ = x0 (ix1 ⟨2 * i.val, by omega⟩)) (h₂ : s₂ = x0 (ix1 ⟨2 * i.val + 1, by omega⟩))
    (h₃ : kp = keys x2 x3 ⟨j.val, by omega⟩ ⟨i.val / 2, by omega⟩) (h₄ : ko = keys x2 x3 ⟨j.val + 1, by omega⟩ ⟨i.val / 2, by omega⟩)
    (h₅ : vp = vals x4 x5 ⟨j.val, by omega⟩ ⟨i.val / 2, by omega⟩) (h₆ : vo = vals x4 x5 ⟨j.val + 1, by omega⟩ ⟨i.val / 2, by omega⟩)
    (h₇ : q = query x1 j i) (h₈ : b = biasAt x6 w i) :
    slot s₁ s₂ kp ko vp vo q b = slotOf x0 x1 x2 x3 x4 x5 x6 j w i := by
  subst h₁ h₂ h₃ h₄ h₅ h₆ h₇ h₈
  rfl

end Cert.KernelIdeal.Hand
-- ==== Proof.AttnLoad.lean ====
module

public import proofs.«01_k».proof.Proof.Gen.KernelIdeal.Value
public import proofs.«01_k».proof.Proof.AttnTile
public import Idealize.ShloMosaic.Lib.ValueIdx
public import Idealize.ShloMosaic.Lib.Pipeline.ValueKit.Point
public import Idealize.ShloMosaic.Lib.WritesUnit
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

theorem ld_keys (x : Vec Ideal S512x512 .f32) (a b : Nat) (h : ∀ i, (![a, b] : Fin 2 → Nat) i + (![128, 128] : Fin 2 → Nat) i ≤ S512x512.size i) :
    View.ld x (Rect.unit (s := S512x512) ![a, b] (![128, 128] : Fin 2 → Nat) h)
      = fun y => x (ix2 ⟨a + (y 0).val, by have := h 0; have : (y 0).val < 128 := (y 0).isLt; simp at *; omega⟩
          ⟨b + (y 1).val, by have := h 1; have : (y 1).val < 128 := (y 1).isLt; simp at *; omega⟩) := by
  funext y
  pointwise []

theorem ld_prev (x : Vec Ideal S128x512 .f32) (b : Nat) (h : ∀ i, (![0, b] : Fin 2 → Nat) i + (![128, 128] : Fin 2 → Nat) i ≤ S128x512.size i) :
    View.ld x (Rect.unit (s := S128x512) ![0, b] (![128, 128] : Fin 2 → Nat) h)
      = fun y => x (ix2 ⟨(y 0).val, (y 0).isLt⟩
          ⟨b + (y 1).val, by have := h 1; have : (y 1).val < 128 := (y 1).isLt; simp at *; omega⟩) := by
  funext y
  pointwise []

theorem ld_query (x : Vec Ideal S512x1024 .bf16) (a b : Nat) (h : ∀ i, (![a, b] : Fin 2 → Nat) i + (![128, 128] : Fin 2 → Nat) i ≤ S512x1024.size i) :
    View.ld x (Rect.unit (s := S512x1024) ![a, b] (![128, 128] : Fin 2 → Nat) h)
      = fun y => x (ix2 ⟨a + (y 0).val, by have := h 0; have : (y 0).val < 128 := (y 0).isLt; simp at *; omega⟩
          ⟨b + (y 1).val, by have := h 1; have : (y 1).val < 128 := (y 1).isLt; simp at *; omega⟩) := by
  funext y
  pointwise []

theorem ld_vals (x : Vec Ideal S1x256x512 .f32) (a b : Nat) (h : ∀ i, (![0, a, b] : Fin 3 → Nat) i + (![1, 64, 128] : Fin 3 → Nat) i ≤ S1x256x512.size i) :
    View.ld x (Rect.unit (s := S1x256x512) ![0, a, b] (![1, 64, 128] : Fin 3 → Nat) h)
      = fun y => x (ix3 0 ⟨a + (y 1).val, by have := h 1; have : (y 1).val < 64 := (y 1).isLt; simp at *; omega⟩
          ⟨b + (y 2).val, by have := h 2; have : (y 2).val < 128 := (y 2).isLt; simp at *; omega⟩) := by
  funext y
  pointwise []

theorem ld_before (x : Vec Ideal S1x256x128 .f32) (a : Nat) (h : ∀ i, (![0, a, 0] : Fin 3 → Nat) i + (![1, 64, 128] : Fin 3 → Nat) i ≤ S1x256x128.size i) :
    View.ld x (Rect.unit (s := S1x256x128) ![0, a, 0] (![1, 64, 128] : Fin 3 → Nat) h)
      = fun y => x (ix3 0 ⟨a + (y 1).val, by have := h 1; have : (y 1).val < 64 := (y 1).isLt; simp at *; omega⟩
          ⟨(y 2).val, (y 2).isLt⟩) := by
  funext y
  pointwise []

theorem ld_bias (x : Vec Ideal S2x8x256x256 .f32) (w : Fin 2) (i : Fin 8) (off : Fin 4 → Nat) (e : off = ![w.val, i.val, 0, 0])
    (h : ∀ a, off a + (![1, 1, 256, 256] : Fin 4 → Nat) a ≤ S2x8x256x256.size a) :
    View.ld x (Rect.unit (s := S2x8x256x256) off (![1, 1, 256, 256] : Fin 4 → Nat) h) = biasAt x w i := by
  subst e
  funext y
  pointwise [biasAt]

theorem ld_sink (x : Vec Ideal S16 .f32) (a : Nat) (h : ∀ i, (![a] : Fin 1 → Nat) i + (![1] : Fin 1 → Nat) i ≤ S16.size i)
    (y : (Rect.unit (s := S16) ![a] (![1] : Fin 1 → Nat) h).shape.Idx) :
    View.ld x (Rect.unit (s := S16) ![a] (![1] : Fin 1 → Nat) h) y = x (ix1 ⟨a, by have := h 0; simp at *; omega⟩) := by
  pointwise []

theorem ld_bias_lit (x : Vec Ideal S2x8x256x256 .f32) (w i : Nat)
    (h : ∀ a, (![w, i, 0, 0] : Fin 4 → Nat) a + (![1, 1, 256, 256] : Fin 4 → Nat) a ≤ S2x8x256x256.size a) :
    View.ld x (Rect.unit (s := S2x8x256x256) ![w, i, 0, 0] (![1, 1, 256, 256] : Fin 4 → Nat) h)
      = biasAt x ⟨w, by have := h 0; simp at *; omega⟩ ⟨i, by have := h 1; simp at *; omega⟩ := by
  funext y
  pointwise [biasAt]

theorem store_apply (w : FVec Ideal S128x1024 .bf16) (r : Fin 128) (l : Fin 1024) : k0_pay265 w (ix3 0 r l) = w (ix2 r l) := by
  pointwise [k0_pay265]

/-- The bias variant of the first block of tile `i`: `0` where a sequence begins. -/
def variant (i : grid0.Coords) : Fin 2 := ⟨if min (i 0).val 63 % 8 = 0 then 0 else 1, by split <;> decide⟩

end Cert.KernelIdeal.Hand
-- ==== Proof.AttnOut.lean ====
/- The attention call: what a grid point leaves in its result block. -/
module

public import proofs.«01_k».proof.Proof.AttnLoad
public import proofs.«01_k».proof.Proof.Spec
public import Idealize.ShloMosaic.Lib.ValueIdx
public import Idealize.ShloMosaic.Lib.Pipeline.ValueKit.Point
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

theorem zero2 : (![0, 0] : Fin 2 → Nat) = fun _ => 0 := funext fun a => by fin_cases a <;> rfl

/-- The plane of the scratch buffer that the point before filled. -/
def before (s : Vec Ideal S2x512x1024 .bf16) (i : grid0.Coords) : Vec Ideal S1x512x1024 .bf16 := fun y =>
  s (ix3 ⟨1 - (i 0).val % 2, by omega⟩ ⟨(y 1).val, (y 1).isLt⟩ ⟨(y 2).val, (y 2).isLt⟩)

/-- The activations of a block: what the scratch holds before the last product. -/
def acts (y : Vec Ideal S512x1024 .f32) (g : Vec Ideal S1x1024 .f32) (w : Vec Ideal S1024x5632 .bf16) :
    Vec Ideal S512x2816 .bf16 := fun i =>
  act (rms (fun e => y (ix2 (i 0) e)) fun e => g (ix2 0 e))
    (fun d => w (ix2 d (gateCol (i 1)))) fun d => w (ix2 d (upCol (i 1)))

theorem ld_plane (x : Vec Ideal S2x512x1024 .bf16) (i : grid0.Coords)
    (h : ∀ a, k0_off1 i a + S1x512x1024.size a ≤ S2x512x1024.size a) :
    View.ld x (Rect.unit (s := S2x512x1024) (k0_off1 i) S1x512x1024.size h) = before x i := by
  have e := k0_off1_eq i
  revert h
  rw [e]
  intro h
  funext y
  pointwise [before]

/-- A point after the first leaves the feed-forward block of the residual sum of the tile before. -/
theorem out_eq (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .f32) (harg3 : arg3.IsWhole) (arg4 : Memref sig .tc .vmem S512x512 .f32) (harg4 : arg4.IsWhole) (arg5 : Memref sig .tc .vmem S1x256x128 .f32) (harg5 : arg5.IsWhole) (arg6 : Memref sig .tc .vmem S1x256x512 .f32) (harg6 : arg6.IsWhole) (arg7 : Memref sig .tc .vmem S2x8x256x256 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S2x512x1024 .bf16) (harg15 : arg15.IsWhole) (hc0 : ¬cond0_0 i)
    (x0 : Vec Ideal S16 .f32) (x1 : Vec Ideal S512x1024 .bf16) (x2 : Vec Ideal S128x512 .f32) (x3 : Vec Ideal S512x512 .f32) (x4 : Vec Ideal S1x256x128 .f32) (x5 : Vec Ideal S1x256x512 .f32) (x6 : Vec Ideal S2x8x256x256 .f32) (x7 : Vec Ideal S1024x1024 .bf16) (x8 : Vec Ideal S512x1024 .f32) (x9 : Vec Ideal S1x1024 .f32) (x10 : Vec Ideal S1024x5632 .bf16) (x11 : Vec Ideal S2816x1024 .bf16) (xs1 : Vec Ideal S2x512x1024 .bf16) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs1 = k0_pay266 (k0_pay13 x8 (before xs1 i) x7) (acts (k0_pay13 x8 (before xs1 i) x7) x9 x10) x11 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs1)]
  unfold kernelRun0_B
  dsimp only
  sl_unfold_words
  rw [View.canon_cons_unit_zero (S := S512x1024) zero2]
  simp only [View.readAt_eq_ld, harg8.read_unread, harg9.read_unread, harg10.read_unread, harg11.read_unread, harg12.read_unread, harg15.read_unread,
    View.ld_unit_zero (S := S512x1024) zero2, View.ld_unit_zero (S := S1x1024) zero2, View.ld_unit_zero (S := S2816x1024) zero2, View.ld_unit_zero (S := S1024x1024) zero2]
  generalize hp : View.ld xs1 _ = p
  have hq : p = before xs1 i := hp.symm.trans (ld_plane xs1 i _)
  clear hp
  subst hq
  rw [View.readCov_unit_zero (S := S512x1024) _ zero2]
  congr 1
  rw [View.readCov_eq_canon_ld _ _ _ (View.cover_of_tiledL _ ![512, 256] (by rfl)), View.ld_unit_zero (S := S512x2816) zero2]
  generalize before xs1 i = p
  funext y
  canon_tiles x h
  all_goals open_payloads
  all_goals pointwise [acts, act, rms, k0_pay13]
  all_goals reads_congr
  all_goals blk_ext! [gateCol, upCol]

end Cert.KernelIdeal.Hand
-- ==== Proof.AttnMask.lean ====
/- The attention call: the bias with the keys that a query does not see at minus infinity. -/
module

public import proofs.«01_k».proof.Proof.AttnOut
public import Idealize.ShloMosaic.Lib.Claim

@[expose] public section

set_option maxRecDepth 16384

noncomputable section

namespace Cert.Spec
open Idealize.ShloMosaic

theorem dist_ge (q κ : Nat) (hq : q < 128) (hκ : κ < 256) :
    IntOp.cmpi .sge (IntOp.subi (IntOp.addi (BitVec.ofNat 32 q) 128#32) (BitVec.ofNat 32 κ)) 0#32 = if κ ≤ q + 128 then 1#1 else 0#1 := by
  have e : (0#32).sle (IntOp.subi (IntOp.addi (BitVec.ofNat 32 q) 128#32) (BitVec.ofNat 32 κ)) = decide (κ ≤ q + 128) := by
    rw [BitVec.sle_eq_decide]
    congr 1
    unfold IntOp.subi IntOp.addi
    rw [BitVec.toInt_eq_toNat_cond, BitVec.toInt_eq_toNat_cond]
    simp only [BitVec.toNat_sub, BitVec.toNat_add, BitVec.toNat_ofNat]
    rw [eq_iff_iff]
    omega
  unfold IntOp.cmpi
  dsimp only
  rw [e]
  by_cases h : κ ≤ q + 128 <;> simp [h]

theorem dist_lt (q κ : Nat) (hq : q < 128) (hκ : κ < 256) :
    IntOp.cmpi .slt (IntOp.subi (IntOp.addi (BitVec.ofNat 32 q) 128#32) (BitVec.ofNat 32 κ)) 128#32 = if q < κ then 1#1 else 0#1 := by
  have e : (IntOp.subi (IntOp.addi (BitVec.ofNat 32 q) 128#32) (BitVec.ofNat 32 κ)).slt 128#32 = decide (q < κ) := by
    rw [BitVec.slt_eq_decide]
    congr 1
    unfold IntOp.subi IntOp.addi
    rw [BitVec.toInt_eq_toNat_cond, BitVec.toInt_eq_toNat_cond]
    simp only [BitVec.toNat_sub, BitVec.toNat_add, BitVec.toNat_ofNat]
    rw [eq_iff_iff]
    omega
  unfold IntOp.cmpi
  dsimp only
  rw [e]
  by_cases h : q < κ <;> simp [h]

theorem own_ge (κ : Nat) (hκ : κ < 256) : IntOp.cmpi .sge (BitVec.ofNat 32 κ) 128#32 = if 128 ≤ κ then 1#1 else 0#1 := by
  have e : (128#32).sle (BitVec.ofNat 32 κ) = decide (128 ≤ κ) := by
    rw [BitVec.sle_eq_decide]
    congr 1
    rw [BitVec.toInt_eq_toNat_cond, BitVec.toInt_eq_toNat_cond]
    simp only [BitVec.toNat_ofNat]
    rw [eq_iff_iff]
    omega
  unfold IntOp.cmpi
  dsimp only
  rw [e]
  by_cases h : 128 ≤ κ <;> simp [h]

theorem block_gt (n : Nat) (hn : n < 32) : IntOp.cmpi .sgt (BitVec.ofNat 32 n) 0#32 = if 0 < n then 1#1 else 0#1 := by
  have e : (0#32).slt (BitVec.ofNat 32 n) = decide (0 < n) := by
    rw [BitVec.slt_eq_decide]
    congr 1
    rw [BitVec.toInt_eq_toNat_cond, BitVec.toInt_eq_toNat_cond]
    simp only [BitVec.toNat_ofNat]
    rw [eq_iff_iff]
    omega
  unfold IntOp.cmpi
  dsimp only
  rw [e]
  by_cases h : 0 < n <;> simp [h]

theorem and_bit (p q : Prop) [Decidable p] [Decidable q] :
    IntOp.andi (if p then 1#1 else 0#1) (if q then 1#1 else 0#1) = if p ∧ q then 1#1 else 0#1 := by
  by_cases hp : p <;> by_cases hq : q <;> simp [hp, hq] <;> rfl

theorem or_bit (p q : Prop) [Decidable p] [Decidable q] :
    IntOp.ori (if p then 1#1 else 0#1) (if q then 1#1 else 0#1) = if p ∨ q then 1#1 else 0#1 := by
  by_cases hp : p <;> by_cases hq : q <;> simp [hp, hq] <;> rfl

theorem select_bit {α : Type} (p : Prop) [Decidable p] (a b : α) : Scalar.select (if p then 1#1 else 0#1) a b = if p then a else b := by
  by_cases hp : p <;> simp [hp, Scalar.select]

theorem bot_word : Ideal.ofBits FTy.f32 4286578688#32 = ⊥ := by simp [Ideal.ofBits, Ideal.ieee]

end Cert.Spec

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

/-- Which keys of the band a query sees, with both blocks of keys at hand. -/
def inWindow : IVec S128x256 1 :=
  andi (cmpi .sge (subi (addi (iotaInDim S128x256 32 0) (broadcastInDim S128x256 ![] bcast_S_S128x256 (constantI S_ 32 128#32))) (iotaInDim S128x256 32 1))
      (broadcastInDim S128x256 ![] bcast_S_S128x256 (constantI S_ 32 0#32)))
    (cmpi .slt (subi (addi (iotaInDim S128x256 32 0) (broadcastInDim S128x256 ![] bcast_S_S128x256 (constantI S_ 32 128#32))) (iotaInDim S128x256 32 1))
      (broadcastInDim S128x256 ![] bcast_S_S128x256 (constantI S_ 32 128#32)))

/-- The same where the block before is missing. -/
def inOwn : IVec S128x256 1 :=
  andi inWindow (cmpi .sge (iotaInDim S128x256 32 1) (broadcastInDim S128x256 ![] bcast_S_S128x256 (constantI S_ 32 128#32)))

/-- The bias with the unseen keys at minus infinity, before it is laid out key-major. -/
def masked (b : FVec Ideal S16x128x256 .f32) : FVec Ideal S2x16x128x256 .f32 :=
  select (broadcastInDim S2x16x128x256 ![0, 1, 2, 3] bcast_S2x1x128x256_S2x16x128x256_0_1_2_3
      (broadcastInDim S2x1x128x256 ![0, 2, 3] bcast_S2x128x256_S2x1x128x256_0_2_3
        (concatenate S2x128x256 0
          [⟨S1x128x256, broadcastInDim S1x128x256 ![1, 2] bcast_S128x256_S1x128x256_1_2 inOwn⟩,
            ⟨S1x128x256, broadcastInDim S1x128x256 ![1, 2] bcast_S128x256_S1x128x256_1_2 inWindow⟩]
          concatenates_S1x128x256_S1x128x256_S2x128x256_d0)))
    (broadcastInDim S2x16x128x256 ![0, 1, 2, 3] bcast_S1x16x128x256_S2x16x128x256_0_1_2_3
      (broadcastInDim S1x16x128x256 ![1, 2, 3] bcast_S16x128x256_S1x16x128x256_1_2_3 b))
    (broadcastInDim S2x16x128x256 ![] bcast_S_S2x16x128x256 (constant S_ .f32 0xFF800000#32))

theorem inWindow_apply (q : Fin 128) (κ : Fin 256) : inWindow (ix2 q κ) = if κ.val ≤ q.val + 128 ∧ q.val < κ.val then 1#1 else 0#1 := by
  pointwise [inWindow]
  rw [dist_ge _ _ q.isLt κ.isLt, dist_lt _ _ q.isLt κ.isLt, and_bit]

theorem inOwn_apply (q : Fin 128) (κ : Fin 256) : inOwn (ix2 q κ) = if (κ.val ≤ q.val + 128 ∧ q.val < κ.val) ∧ 128 ≤ κ.val then 1#1 else 0#1 := by
  pointwise [inOwn]
  rw [inWindow_apply, own_ge _ κ.isLt, and_bit]

theorem masked_apply (b : FVec Ideal S16x128x256 .f32) (w : Fin 2) (h : Fin 16) (q : Fin 128) (κ : Fin 256) :
    masked b (ix4 w h q κ) = if (κ.val ≤ q.val + 128 ∧ q.val < κ.val) ∧ (w.val = 1 ∨ 128 ≤ κ.val) then b (ix3 h q κ) else ⊥ := by
  have e : masked b (ix4 w h q κ) = Scalar.select (if h : w.val < 1 then inOwn (ix2 q κ) else inWindow (ix2 q κ)) (b (ix3 h q κ))
      (Ideal.ofBits FTy.f32 4286578688#32) := by
    unfold masked
    generalize inOwn = A
    generalize inWindow = B
    pointwise []
  rw [e, bot_word, inOwn_apply, inWindow_apply]
  by_cases h0 : w.val < 1
  · rw [dif_pos h0, select_bit]
    have : w.val ≠ 1 := by omega
    simp [this]
  · rw [dif_neg h0, select_bit]
    have : w.val = 1 := by omega
    simp [this]

end Cert.KernelIdeal.Hand
end
-- ==== Proof.AttnEntry.lean ====
/- The attention call: the operands that the host lines lay out, over the argument arrays. -/
module

public import proofs.«01_k».proof.Proof.AttnMask
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

variable (m : (ℓ : Loc nD τ sig) → Buf (Elt Ideal) ℓ)

theorem keys_entry (c : Dev nD) : (V m c main_v1 : FVec Ideal S32768x512 .f32) =
    shapeCast S32768x512 (concatenate S8x4096x4x128 3
      [⟨S8x4096x4x64, (m ((c : Thread nD τ).loc main_arg2) : FVec Ideal S8x4096x4x64 .f32)⟩, ⟨S8x4096x4x64, (m ((c : Thread nD τ).loc main_arg2) : FVec Ideal S8x4096x4x64 .f32)⟩]
      concatenates_S8x4096x4x64_S8x4096x4x64_S8x4096x4x128_d3) shapeCasts_S8x4096x4x128_S32768x512 := by
  entry_read
  unfold hostOps0 hostOps0_1 hostOps0_2
  simp only [List.flatten_cons, List.flatten_nil, List.cons_append, List.nil_append, List.append_nil]
  after_results
  rfl

theorem keys_entry_apply (c : Dev nD) (r : Fin 32768) (b : Fin 512) : (V m c main_v1 : FVec Ideal S32768x512 .f32) (ix2 r b)
    = (m ((c : Thread nD τ).loc main_arg2) : FVec Ideal S8x4096x4x64 .f32)
      (ix4 ⟨r.val / 4096, by omega⟩ ⟨r.val % 4096, by omega⟩ ⟨b.val / 128, by omega⟩ ⟨b.val % 64, by omega⟩) := by
  rw [keys_entry]
  generalize (m ((c : Thread nD τ).loc main_arg2) : FVec Ideal S8x4096x4x64 .f32) = k
  pointwise []
  by_cases h : b.val % 128 < 64
  · rw [dif_pos h]
    congr 1
    blk_ext!
  · rw [dif_neg h]
    congr 1
    blk_ext!

theorem vals_entry (c : Dev nD) : (V m c main_v3 : FVec Ideal S8x256x4096 .f32) =
    transpose S8x256x4096 [0, 2, 1] (shapeCast S8x4096x256 (m ((c : Thread nD τ).loc main_arg3) : FVec Ideal S8x4096x4x64 .f32)
      shapeCasts_S8x4096x4x64_S8x4096x256) transposes_S8x4096x256_S8x256x4096_0_2_1 := by
  entry_read
  unfold hostOps0 hostOps0_1 hostOps0_2
  simp only [List.flatten_cons, List.flatten_nil, List.cons_append, List.nil_append, List.append_nil]
  after_results
  rfl

theorem vals_entry_apply (c : Dev nD) (s : Fin 8) (b : Fin 256) (r : Fin 4096) : (V m c main_v3 : FVec Ideal S8x256x4096 .f32) (ix3 s b r)
    = (m ((c : Thread nD τ).loc main_arg3) : FVec Ideal S8x4096x4x64 .f32)
      (ix4 s r ⟨b.val / 64, by omega⟩ ⟨b.val % 64, by omega⟩) := by
  rw [vals_entry]
  generalize (m ((c : Thread nD τ).loc main_arg3) : FVec Ideal S8x4096x4x64 .f32) = k
  pointwise []

theorem bias_entry (c : Dev nD) : (V m c main_v25 : FVec Ideal S2x8x256x256 .f32) =
    shapeCast S2x8x256x256 (transpose S2x8x256x2x128 [0, 1, 4, 2, 3]
      (shapeCast S2x8x2x128x256 (masked (m ((c : Thread nD τ).loc main_arg4) : FVec Ideal S16x128x256 .f32)) shapeCasts_S2x16x128x256_S2x8x2x128x256)
      transposes_S2x8x2x128x256_S2x8x256x2x128_0_1_4_2_3) shapeCasts_S2x8x256x2x128_S2x8x256x256 := by
  entry_read
  unfold hostOps0 hostOps0_1 hostOps0_2
  simp only [List.flatten_cons, List.flatten_nil, List.cons_append, List.nil_append, List.append_nil]
  after_results
  rfl

theorem bias_entry_apply (c : Dev nD) (w : Fin 2) (i : Fin 8) (κ : Fin 256) (a : Fin 256) : (V m c main_v25 : FVec Ideal S2x8x256x256 .f32) (ix4 w i κ a)
    = masked (m ((c : Thread nD τ).loc main_arg4) : FVec Ideal S16x128x256 .f32)
      (ix4 w ⟨2 * i.val + a.val / 128, by omega⟩ ⟨a.val % 128, by omega⟩ κ) := by
  rw [bias_entry]
  generalize masked (m ((c : Thread nD τ).loc main_arg4) : FVec Ideal S16x128x256 .f32) = k
  pointwise []
  congr 1
  blk_ext!

theorem weight_entry (c : Dev nD) : (V m c main_v30 : FVec Ideal S1024x5632 .bf16) =
    truncf (F := Ideal) (s := S1024x5632) (φ := .f32) .bf16 (shapeCast S1024x5632 (transpose S1024x11x2x256 [0, 2, 1, 3]
      (shapeCast S1024x2x11x256 (m ((c : Thread nD τ).loc main_arg8) : FVec Ideal S1024x5632 .f32) shapeCasts_S1024x5632_S1024x2x11x256)
      transposes_S1024x2x11x256_S1024x11x2x256_0_2_1_3) shapeCasts_S1024x11x2x256_S1024x5632) bitsLt_bf16_f32 := by
  entry_read
  unfold hostOps0 hostOps0_1 hostOps0_2
  simp only [List.flatten_cons, List.flatten_nil, List.cons_append, List.nil_append, List.append_nil]
  after_results
  rfl

theorem weight_entry_gate (c : Dev nD) (d : Fin 1024) (f : Fin 2816) : (V m c main_v30 : FVec Ideal S1024x5632 .bf16) (ix2 d (gateCol f))
    = (m ((c : Thread nD τ).loc main_arg8) : FVec Ideal S1024x5632 .f32) (ix2 d (gateSrc f)) := by
  rw [weight_entry]
  generalize (m ((c : Thread nD τ).loc main_arg8) : FVec Ideal S1024x5632 .f32) = k
  pointwise []
  congr 1
  blk_ext! [gateCol, gateSrc]

theorem weight_entry_up (c : Dev nD) (d : Fin 1024) (f : Fin 2816) : (V m c main_v30 : FVec Ideal S1024x5632 .bf16) (ix2 d (upCol f))
    = (m ((c : Thread nD τ).loc main_arg8) : FVec Ideal S1024x5632 .f32) (ix2 d (upSrc f)) := by
  rw [weight_entry]
  generalize (m ((c : Thread nD τ).loc main_arg8) : FVec Ideal S1024x5632 .f32) = k
  pointwise []
  congr 1
  blk_ext! [upCol, upSrc]

theorem out_entry (c : Dev nD) : (V m c main_v26 : FVec Ideal S1024x1024 .bf16) =
    truncf (F := Ideal) (s := S1024x1024) (φ := .f32) .bf16 (m ((c : Thread nD τ).loc main_arg6) : FVec Ideal S1024x1024 .f32) bitsLt_bf16_f32 := by
  entry_read
  unfold hostOps0 hostOps0_1 hostOps0_2
  simp only [List.flatten_cons, List.flatten_nil, List.cons_append, List.nil_append, List.append_nil]
  after_results

theorem down_entry (c : Dev nD) : (V m c main_v31 : FVec Ideal S2816x1024 .bf16) =
    truncf (F := Ideal) (s := S2816x1024) (φ := .f32) .bf16 (m ((c : Thread nD τ).loc main_arg9) : FVec Ideal S2816x1024 .f32) bitsLt_bf16_f32 := by
  entry_read
  unfold hostOps0 hostOps0_1 hostOps0_2
  simp only [List.flatten_cons, List.flatten_nil, List.cons_append, List.nil_append, List.append_nil]
  after_results

theorem gains_entry (c : Dev nD) : (V m c main_v32 : FVec Ideal S1x1024 .f32) =
    shapeCast S1x1024 (m ((c : Thread nD τ).loc main_arg7) : FVec Ideal S1024 .f32) shapeCasts_S1024_S1x1024 := by
  entry_read
  unfold hostOps0 hostOps0_1 hostOps0_2
  simp only [List.flatten_cons, List.flatten_nil, List.cons_append, List.nil_append, List.append_nil]
  after_results
  rfl

end Cert.KernelIdeal.Hand
end
-- ==== Proof.AttnRead.lean ====
/- The attention call: the operands' blocks over the argument arrays. -/
module

public import proofs.«01_k».proof.Proof.AttnEntry
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

variable (m : (ℓ : Loc nD τ sig) → Buf (Elt Ideal) ℓ)

theorem idx : ∀ t : Fin cfg0.N, win0_0.index t = ![0] ∧ win0_1.index t = ![min t.val 63, 0] ∧ win0_2.index t = ![4 * min t.val 63 - 1, 0]
    ∧ win0_3.index t = ![min t.val 63, 0] ∧ win0_4.index t = ![min t.val 63 / 8, 0, min t.val 63 % 8 * 4 - 1]
    ∧ win0_5.index t = ![min t.val 63 / 8, 0, min t.val 63 % 8] ∧ win0_6.index t = ![0, 0, 0, 0] ∧ win0_7.index t = ![0, 0]
    ∧ win0_8.index t = ![t.val - 1, 0] ∧ win0_9.index t = ![0, 0] ∧ win0_10.index t = ![0, 0] ∧ win0_11.index t = ![0, 0]
    ∧ win0_12.index t = ![t.val - 1, 0] :=
  (by decide +kernel : ∀ t : Fin grid0.N, _)

theorem coord : ∀ t : Fin cfg0.N, ((grid0.coords t) 0).val = t.val :=
  (by decide +kernel : ∀ t : Fin grid0.N, _)

theorem iblk_sinks (c : Dev nD) (t : Fin cfg0.N) (a : Fin 16) :
    (iblk m c 0 t : Vec Ideal S16 .f32) (ix1 a) = (m ((c : Thread nD τ).loc main_arg5) : FVec Ideal S16 .f32) (ix1 a) := by
  blk_point [iblk, V, idx t]

theorem iblk_query (c : Dev nD) (t : Fin cfg0.N) (ht : t.val < 64) (a : Fin 512) (b : Fin 1024) :
    (iblk m c 1 t : Vec Ideal S512x1024 .bf16) (ix2 a b)
      = (m ((c : Thread nD τ).loc main_arg1) : FVec Ideal S32768x1024 .bf16) (ix2 ⟨512 * t.val + a.val, by omega⟩ b) := by
  blk_point [iblk, V, idx t]

theorem iblk_own (c : Dev nD) (t : Fin cfg0.N) (ht : t.val < 64) (a : Fin 512) (b : Fin 512) :
    (iblk m c 3 t : Vec Ideal S512x512 .f32) (ix2 a b)
      = (m ((c : Thread nD τ).loc main_arg2) : FVec Ideal S8x4096x4x64 .f32)
        (ix4 ⟨(512 * t.val + a.val) / 4096, by omega⟩ ⟨(512 * t.val + a.val) % 4096, by omega⟩ ⟨b.val / 128, by omega⟩ ⟨b.val % 64, by omega⟩) := by
  refine Eq.trans ?_ (keys_entry_apply m c ⟨512 * t.val + a.val, by omega⟩ b)
  blk_point [iblk, idx t]

theorem iblk_prev (c : Dev nD) (t : Fin cfg0.N) (ht : t.val < 64) (a : Fin 128) (b : Fin 512) :
    (iblk m c 2 t : Vec Ideal S128x512 .f32) (ix2 a b)
      = (m ((c : Thread nD τ).loc main_arg2) : FVec Ideal S8x4096x4x64 .f32)
        (ix4 ⟨(128 * (4 * t.val - 1) + a.val) / 4096, by omega⟩ ⟨(128 * (4 * t.val - 1) + a.val) % 4096, by omega⟩ ⟨b.val / 128, by omega⟩ ⟨b.val % 64, by omega⟩) := by
  refine Eq.trans ?_ (keys_entry_apply m c ⟨128 * (4 * t.val - 1) + a.val, by omega⟩ b)
  blk_point [iblk, idx t]

theorem iblk_valOwn (c : Dev nD) (t : Fin cfg0.N) (ht : t.val < 64) (a : Fin 256) (b : Fin 512) :
    (iblk m c 5 t : Vec Ideal S1x256x512 .f32) (ix3 0 a b)
      = (m ((c : Thread nD τ).loc main_arg3) : FVec Ideal S8x4096x4x64 .f32)
        (ix4 ⟨t.val / 8, by omega⟩ ⟨512 * (t.val % 8) + b.val, by omega⟩ ⟨a.val / 64, by omega⟩ ⟨a.val % 64, by omega⟩) := by
  refine Eq.trans ?_ (vals_entry_apply m c ⟨t.val / 8, by omega⟩ a ⟨512 * (t.val % 8) + b.val, by omega⟩)
  blk_point [iblk, idx t]

theorem iblk_valPrev (c : Dev nD) (t : Fin cfg0.N) (ht : t.val < 64) (a : Fin 256) (b : Fin 128) :
    (iblk m c 4 t : Vec Ideal S1x256x128 .f32) (ix3 0 a b)
      = (m ((c : Thread nD τ).loc main_arg3) : FVec Ideal S8x4096x4x64 .f32)
        (ix4 ⟨t.val / 8, by omega⟩ ⟨128 * (t.val % 8 * 4 - 1) + b.val, by omega⟩ ⟨a.val / 64, by omega⟩ ⟨a.val % 64, by omega⟩) := by
  refine Eq.trans ?_ (vals_entry_apply m c ⟨t.val / 8, by omega⟩ a ⟨128 * (t.val % 8 * 4 - 1) + b.val, by omega⟩)
  blk_point [iblk, idx t]

theorem iblk_bias (c : Dev nD) (t : Fin cfg0.N) (w : Fin 2) (i : Fin 8) (κ a : Fin 256) :
    (iblk m c 6 t : Vec Ideal S2x8x256x256 .f32) (ix4 w i κ a)
      = masked (m ((c : Thread nD τ).loc main_arg4) : FVec Ideal S16x128x256 .f32)
        (ix4 w ⟨2 * i.val + a.val / 128, by omega⟩ ⟨a.val % 128, by omega⟩ κ) := by
  refine Eq.trans ?_ (bias_entry_apply m c w i κ a)
  blk_point [iblk, idx t]

theorem iblk_out (c : Dev nD) (t : Fin cfg0.N) (a b : Fin 1024) :
    (iblk m c 7 t : Vec Ideal S1024x1024 .bf16) (ix2 a b)
      = (m ((c : Thread nD τ).loc main_arg6) : FVec Ideal S1024x1024 .f32) (ix2 a b) := by
  refine Eq.trans ?_ (congrFun (out_entry m c) (ix2 a b))
  blk_point [iblk, idx t]

theorem iblk_row (c : Dev nD) (t : Fin cfg0.N) (a : Fin 512) (b : Fin 1024) :
    (iblk m c 8 t : Vec Ideal S512x1024 .f32) (ix2 a b)
      = (m ((c : Thread nD τ).loc main_arg0) : FVec Ideal S32768x1024 .f32) (ix2 ⟨512 * (t.val - 1) + a.val, by have : t.val < 65 := t.isLt; omega⟩ b) := by
  blk_point [iblk, V, idx t]

theorem iblk_gains (c : Dev nD) (t : Fin cfg0.N) (b : Fin 1024) :
    (iblk m c 9 t : Vec Ideal S1x1024 .f32) (ix2 0 b)
      = (m ((c : Thread nD τ).loc main_arg7) : FVec Ideal S1024 .f32) (ix1 b) := by
  have e : (V m c main_v32 : FVec Ideal S1x1024 .f32) (ix2 0 b) = (m ((c : Thread nD τ).loc main_arg7) : FVec Ideal S1024 .f32) (ix1 b) := by
    rw [gains_entry]
    generalize (m ((c : Thread nD τ).loc main_arg7) : FVec Ideal S1024 .f32) = k
    pointwise []
  refine Eq.trans ?_ e
  blk_point [iblk, idx t]

theorem iblk_gate (c : Dev nD) (t : Fin cfg0.N) (d : Fin 1024) (f : Fin 2816) :
    (iblk m c 10 t : Vec Ideal S1024x5632 .bf16) (ix2 d (gateCol f))
      = (m ((c : Thread nD τ).loc main_arg8) : FVec Ideal S1024x5632 .f32) (ix2 d (gateSrc f)) := by
  refine Eq.trans ?_ (weight_entry_gate m c d f)
  blk_point [iblk, idx t]

theorem iblk_up (c : Dev nD) (t : Fin cfg0.N) (d : Fin 1024) (f : Fin 2816) :
    (iblk m c 10 t : Vec Ideal S1024x5632 .bf16) (ix2 d (upCol f))
      = (m ((c : Thread nD τ).loc main_arg8) : FVec Ideal S1024x5632 .f32) (ix2 d (upSrc f)) := by
  refine Eq.trans ?_ (weight_entry_up m c d f)
  blk_point [iblk, idx t]

theorem iblk_down (c : Dev nD) (t : Fin cfg0.N) (f : Fin 2816) (j : Fin 1024) :
    (iblk m c 11 t : Vec Ideal S2816x1024 .bf16) (ix2 f j)
      = (m ((c : Thread nD τ).loc main_arg9) : FVec Ideal S2816x1024 .f32) (ix2 f j) := by
  refine Eq.trans ?_ (congrFun (down_entry m c) (ix2 f j))
  blk_point [iblk, idx t]

end Cert.KernelIdeal.Hand
end
-- ==== Proof.AttnValue.lean ====
/- The attention call: what the tiles in the scratch buffer hold, over the argument arrays. -/
module

public import proofs.«01_k».proof.Proof.AttnSpec
public import proofs.«01_k».proof.Proof.AttnRead

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

variable (m : (ℓ : Loc nD τ sig) → Buf (Elt Ideal) ℓ)

/-- The bias variant of block `j` of tile `t`. -/
abbrev variantAt (t : Fin cfg0.N) (j : Fin 4) : Fin 2 := if j.val = 0 ∧ t.val % 8 = 0 then 0 else 1

theorem ix4_congr {n0 n1 n2 n3 : Nat} {a a' : Fin n0} {b b' : Fin n1} {e e' : Fin n2} {d d' : Fin n3}
    (h0 : a.val = a'.val) (h1 : b.val = b'.val) (h2 : e.val = e'.val) (h3 : d.val = d'.val) : ix4 a b e d = ix4 a' b' e' d' := by
  rw [Fin.ext h0, Fin.ext h1, Fin.ext h2, Fin.ext h3]

theorem keys_first {xp : Vec Ideal S128x512 .f32} {xo : Vec Ideal S512x512 .f32} {j : Fin 5} (hj : j.val = 0) (g : Fin 4) (x d : Fin 128) :
    keys xp xo j g (ix2 x d) = xp (ix2 x ⟨128 * g.val + d.val, by omega⟩) := by
  unfold keys
  rw [dif_pos hj]
  rfl

theorem keys_later {xp : Vec Ideal S128x512 .f32} {xo : Vec Ideal S512x512 .f32} {j : Fin 5} (hj : ¬j.val = 0) (g : Fin 4) (x d : Fin 128) :
    keys xp xo j g (ix2 x d) = xo (ix2 ⟨128 * (j.val - 1) + x.val, by omega⟩ ⟨128 * g.val + d.val, by omega⟩) := by
  unfold keys
  rw [dif_neg hj]
  rfl

theorem vals_first {xp : Vec Ideal S1x256x128 .f32} {xo : Vec Ideal S1x256x512 .f32} {j : Fin 5} (hj : j.val = 0) (g : Fin 4) (d : Fin 64)
    (x : Fin 128) : vals xp xo j g (ix3 0 d x) = xp (ix3 0 ⟨64 * g.val + d.val, by omega⟩ x) := by
  unfold vals
  rw [dif_pos hj]
  rfl

theorem vals_later {xp : Vec Ideal S1x256x128 .f32} {xo : Vec Ideal S1x256x512 .f32} {j : Fin 5} (hj : ¬j.val = 0) (g : Fin 4) (d : Fin 64)
    (x : Fin 128) :
    vals xp xo j g (ix3 0 d x) = xo (ix3 0 ⟨64 * g.val + d.val, by omega⟩ ⟨128 * (j.val - 1) + x.val, by omega⟩) := by
  unfold vals
  rw [dif_neg hj]
  rfl

theorem query_apply (x : Vec Ideal S512x1024 .bf16) (j : Fin 4) (i : Fin 8) (p d : Fin 128) :
    query x j i (ix2 p d) = x (ix2 ⟨128 * j.val + p.val, by omega⟩ ⟨128 * i.val + d.val, by omega⟩) := rfl

theorem key_eq (c : Dev nD) (t : Fin cfg0.N) (ht : t.val < 64) (j : Fin 4) (g : Fin 4) (r : Fin 128) (d : Fin 128)
    (n : Fin 32768) (hn : n.val = 512 * t.val + 128 * j.val + r.val) (κ : Fin 256) (hs : Seen n κ) :
    band (fun x => keys (iblk m c 2 t) (iblk m c 3 t) ⟨j.val, by omega⟩ g (ix2 x d))
        (fun x => keys (iblk m c 2 t) (iblk m c 3 t) ⟨j.val + 1, by omega⟩ g (ix2 x d)) κ
      = (m ((c : Thread nD τ).loc main_arg2) : FVec Ideal S8x4096x4x64 .f32) (ix4 (seqOf n) (keyPos n κ) g ⟨d.val % 64, by omega⟩) := by
  obtain ⟨⟨h1, h2⟩, h3⟩ := hs
  unfold band
  by_cases hκ : κ.val < 128
  · rw [dif_pos hκ]
    by_cases hj : j.val = 0
    · refine (keys_first hj _ _ _).trans ((iblk_prev m c t ht _ _).trans (congrArg _ (ix4_congr ?_ ?_ ?_ ?_))) <;> simp only [seqOf, keyPos] <;> omega
    · refine (keys_later hj _ _ _).trans ((iblk_own m c t ht _ _).trans (congrArg _ (ix4_congr ?_ ?_ ?_ ?_))) <;> simp only [seqOf, keyPos] <;> omega
  · rw [dif_neg hκ]
    refine (keys_later (by simp) _ _ _).trans ((iblk_own m c t ht _ _).trans (congrArg _ (ix4_congr ?_ ?_ ?_ ?_))) <;> simp only [seqOf, keyPos] <;> omega

theorem value_eq (c : Dev nD) (t : Fin cfg0.N) (ht : t.val < 64) (j : Fin 4) (g : Fin 4) (r : Fin 128) (d : Fin 64)
    (n : Fin 32768) (hn : n.val = 512 * t.val + 128 * j.val + r.val) (κ : Fin 256) (hs : Seen n κ) :
    band (fun x => vals (iblk m c 4 t) (iblk m c 5 t) ⟨j.val, by omega⟩ g (ix3 0 d x))
        (fun x => vals (iblk m c 4 t) (iblk m c 5 t) ⟨j.val + 1, by omega⟩ g (ix3 0 d x)) κ
      = (m ((c : Thread nD τ).loc main_arg3) : FVec Ideal S8x4096x4x64 .f32) (ix4 (seqOf n) (keyPos n κ) g d) := by
  obtain ⟨⟨h1, h2⟩, h3⟩ := hs
  unfold band
  by_cases hκ : κ.val < 128
  · rw [dif_pos hκ]
    by_cases hj : j.val = 0
    · refine (vals_first hj _ _ _).trans ((iblk_valPrev m c t ht _ _).trans (congrArg _ (ix4_congr ?_ ?_ ?_ ?_))) <;> simp only [seqOf, keyPos] <;> omega
    · refine (vals_later hj _ _ _).trans ((iblk_valOwn m c t ht _ _).trans (congrArg _ (ix4_congr ?_ ?_ ?_ ?_))) <;> simp only [seqOf, keyPos] <;> omega
  · rw [dif_neg hκ]
    refine (vals_later (by simp) _ _ _).trans ((iblk_valOwn m c t ht _ _).trans (congrArg _ (ix4_congr ?_ ?_ ?_ ?_))) <;> simp only [seqOf, keyPos] <;> omega

theorem seen_iff (t : Fin cfg0.N) (ht : t.val < 64) (j : Fin 4) (r : Fin 128) (n : Fin 32768)
    (hn : n.val = 512 * t.val + 128 * j.val + r.val) (κ : Fin 256) :
    ((κ.val ≤ r.val + 128 ∧ r.val < κ.val) ∧ ((variantAt t j).val = 1 ∨ 128 ≤ κ.val)) ↔ Seen n κ := by
  have hr : n.val % 128 = r.val := by omega
  unfold Seen
  rw [hr]
  refine and_congr_right fun _ => or_congr_left ?_
  by_cases h : j.val = 0 ∧ t.val % 8 = 0
  · simp only [variantAt, if_pos h]
    constructor
    · intro h0
      exact absurd h0 (by decide)
    · intro h0
      omega
  · simp only [variantAt, if_neg h]
    constructor
    · intro _
      omega
    · intro _
      rfl

theorem score_eq (c : Dev nD) (t : Fin cfg0.N) (ht : t.val < 64) (j : Fin 4) (i : Fin 8) (a : Fin 256)
    (n : Fin 32768) (hn : n.val = 512 * t.val + 128 * j.val + a.val % 128) (h : Fin 16) (hh : h.val = 2 * i.val + a.val / 128) (κ : Fin 256) :
    score (keys (iblk m c 2 t) (iblk m c 3 t) ⟨j.val, by omega⟩ ⟨i.val / 2, by omega⟩)
        (keys (iblk m c 2 t) (iblk m c 3 t) ⟨j.val + 1, by omega⟩ ⟨i.val / 2, by omega⟩)
        (query (iblk m c 1 t) j i) (biasAt (iblk m c 6 t) (variantAt t j) i) a κ
      = scoreAt (m ((c : Thread nD τ).loc main_arg1)) (m ((c : Thread nD τ).loc main_arg2)) (m ((c : Thread nD τ).loc main_arg4)) n h κ := by
  unfold score scoreAt
  have eb : biasAt (iblk m c 6 t) (variantAt t j) i (ix4 0 0 κ a)
      = if Seen n κ then ((m ((c : Thread nD τ).loc main_arg4) : FVec Ideal S16x128x256 .f32) (ix3 h ⟨n.val % 128, by omega⟩ κ) : EReal) else (⊥ : EReal) := by
    refine (iblk_bias m c t (variantAt t j) i κ a).trans ((masked_apply _ _ _ _ _).trans ?_)
    have e := seen_iff t ht j ⟨a.val % 128, by omega⟩ n hn κ
    have e1 : (⟨2 * i.val + a.val / 128, by omega⟩ : Fin 16) = h := Fin.ext hh.symm
    have e2 : (⟨a.val % 128, by omega⟩ : Fin 128) = ⟨n.val % 128, by omega⟩ := Fin.ext (by dsimp only; omega)
    by_cases hs : Seen n κ
    · rw [if_pos hs, if_pos (e.mpr hs), e1, e2]
    · rw [if_neg hs, if_neg (fun h => hs (e.mp h))]
  rw [eb]
  by_cases hs : Seen n κ
  · rw [if_pos hs, if_pos hs]
    refine congrArg (· + _) (Finset.sum_congr rfl fun d _ => ?_)
    rw [key_eq m c t ht j ⟨i.val / 2, by omega⟩ ⟨a.val % 128, by omega⟩ ⟨64 * (a.val / 128) + d.val, by omega⟩ n hn κ hs]
    refine congr (congrArg _ (congrArg _ (ix4_congr rfl rfl ?_ ?_))) ?_
    · dsimp only; omega
    · dsimp only; omega
    · refine (query_apply _ _ _ _ _).trans ((iblk_query m c t ht _ _).trans (congrArg _ ?_))
      refine congr (congrArg _ (Fin.ext ?_)) (Fin.ext ?_)
      · dsimp only; omega
      · dsimp only; omega
  · rw [if_neg hs, if_neg hs, EReal.add_bot]

/-- A tile's row, one column at a time. -/
theorem tile_value (c : Dev nD) (t : Fin cfg0.N) (ht : t.val < 64) (j : Fin 4) (r : Fin 128) (l : Fin 1024) (n : Fin 32768)
    (hn : n.val = 512 * t.val + 128 * j.val + r.val) (w : Fin 2) (hw : w = variantAt t j) :
    tile (slotOf (iblk m c 0 t) (iblk m c 1 t) (iblk m c 2 t) (iblk m c 3 t) (iblk m c 4 t) (iblk m c 5 t) (iblk m c 6 t) j w) (ix2 r l)
      = attn (m ((c : Thread nD τ).loc main_arg1)) (m ((c : Thread nD τ).loc main_arg2)) (m ((c : Thread nD τ).loc main_arg3))
          (m ((c : Thread nD τ).loc main_arg4)) (m ((c : Thread nD τ).loc main_arg5)) n l := by
  subst hw
  rw [tile_apply]
  unfold slotOf
  rw [slot_apply]
  unfold attn
  refine late_congr (fun κ => ?_) ?_ fun κ hκ => ?_
  · exact score_eq m c t ht j ⟨l.val / 128, by omega⟩ ⟨128 * (l.val / 64 % 2) + r.val, by omega⟩ n
      (by dsimp only; omega) ⟨l.val / 64, by omega⟩ (by dsimp only; omega) κ
  · by_cases hl : 128 * (l.val / 64 % 2) + r.val < 128
    · rw [if_pos hl]
      refine (iblk_sinks m c t _).trans (congrArg _ (congrArg _ (Fin.ext ?_)))
      dsimp only; omega
    · rw [if_neg hl]
      refine (iblk_sinks m c t _).trans (congrArg _ (congrArg _ (Fin.ext ?_)))
      dsimp only; omega
  · have hs : Seen n κ := by
      by_contra hs
      exact hκ (if_neg hs)
    rw [value_eq m c t ht j _ r _ n hn κ hs]
    refine congrArg _ (ix4_congr rfl rfl ?_ rfl)
    dsimp only; omega

end Cert.KernelIdeal.Hand
end
-- ==== Proof.AttnStoreA.lean ====
module

public import proofs.«01_k».proof.Proof.Gen.KernelIdeal.Value
public import proofs.«01_k».proof.Proof.AttnLoad
public import Idealize.ShloMosaic.Lib.ValueIdx
public import Idealize.ShloMosaic.Lib.Pipeline.ValueKit.Point
public import Idealize.ShloMosaic.Lib.WritesUnit
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

/-- Rows 384 to 511 of the tile's plane of the scratch buffer. -/
theorem storeA3 (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .f32) (harg3 : arg3.IsWhole) (arg4 : Memref sig .tc .vmem S512x512 .f32) (harg4 : arg4.IsWhole) (arg5 : Memref sig .tc .vmem S1x256x128 .f32) (harg5 : arg5.IsWhole) (arg6 : Memref sig .tc .vmem S1x256x512 .f32) (harg6 : arg6.IsWhole) (arg7 : Memref sig .tc .vmem S2x8x256x256 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S2x512x1024 .bf16) (harg15 : arg15.IsWhole) (hc0 : cond0_0 i)
    (x0 : Vec Ideal S16 .f32) (x1 : Vec Ideal S512x1024 .bf16) (x2 : Vec Ideal S128x512 .f32) (x3 : Vec Ideal S512x512 .f32) (x4 : Vec Ideal S1x256x128 .f32) (x5 : Vec Ideal S1x256x512 .f32) (x6 : Vec Ideal S2x8x256x256 .f32) (x7 : Vec Ideal S1024x1024 .bf16) (x8 : Vec Ideal S512x1024 .f32) (x9 : Vec Ideal S1x1024 .f32) (x10 : Vec Ideal S1024x5632 .bf16) (x11 : Vec Ideal S2816x1024 .bf16) (r : Fin 128) (l : Fin 1024) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 (ix3 ⟨(i 0).val % 2, Nat.mod_lt _ (by decide)⟩ ⟨384 + r.val, by omega⟩ l)
      = tile (slotOf x0 x1 x2 x3 x4 x5 x6 3 1) (ix2 r l) := by
  unfold sout0_A_1
  unfold kernelRun0_A; dsimp only; sl_unfold_words
  refine (View.read_writes_cons_unit_of_mem _ _ _ _ _ _ (ix3 0 r l) (k0_off13_eq i) (fun a => ?_)).trans ?_
  · match a with
    | 0 => rfl
    | 1 => rfl
    | 2 => exact (Nat.zero_add _).symm
  simp only [View.readAt_eq_ld, harg1.read_unread, harg2.read_unread, harg3.read_unread, harg4.read_unread, harg5.read_unread, harg6.read_unread, harg7.read_unread]
  refine (store_apply _ r l).trans (congrFun ?_ _)
  refine tile_of_slots (slotOf x0 x1 x2 x3 x4 x5 x6 3 1) _ _ _ _ _ _ _ _ ?_ ?_ ?_ ?_ ?_ ?_ ?_ ?_
  all_goals refine Eq.trans (b := slot _ _ _ _ _ _ _ _) (by unfold slot; open_payloads; rfl) ?_
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)

/-- Rows 256 to 383 of the tile's plane of the scratch buffer. -/
theorem storeA2 (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .f32) (harg3 : arg3.IsWhole) (arg4 : Memref sig .tc .vmem S512x512 .f32) (harg4 : arg4.IsWhole) (arg5 : Memref sig .tc .vmem S1x256x128 .f32) (harg5 : arg5.IsWhole) (arg6 : Memref sig .tc .vmem S1x256x512 .f32) (harg6 : arg6.IsWhole) (arg7 : Memref sig .tc .vmem S2x8x256x256 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S2x512x1024 .bf16) (harg15 : arg15.IsWhole) (hc0 : cond0_0 i)
    (x0 : Vec Ideal S16 .f32) (x1 : Vec Ideal S512x1024 .bf16) (x2 : Vec Ideal S128x512 .f32) (x3 : Vec Ideal S512x512 .f32) (x4 : Vec Ideal S1x256x128 .f32) (x5 : Vec Ideal S1x256x512 .f32) (x6 : Vec Ideal S2x8x256x256 .f32) (x7 : Vec Ideal S1024x1024 .bf16) (x8 : Vec Ideal S512x1024 .f32) (x9 : Vec Ideal S1x1024 .f32) (x10 : Vec Ideal S1024x5632 .bf16) (x11 : Vec Ideal S2816x1024 .bf16) (r : Fin 128) (l : Fin 1024) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 (ix3 ⟨(i 0).val % 2, Nat.mod_lt _ (by decide)⟩ ⟨256 + r.val, by omega⟩ l)
      = tile (slotOf x0 x1 x2 x3 x4 x5 x6 2 1) (ix2 r l) := by
  unfold sout0_A_1
  unfold kernelRun0_A; dsimp only; sl_unfold_words
  refine (View.read_writes_cons_unit_of_not_mem _ _ _ _ _ _ (k0_off13_eq i) 1
    (Or.inl (show 256 + r.val < 384 by omega))).trans ?_
  refine (View.read_writes_cons_unit_of_mem _ _ _ _ _ _ (ix3 0 r l) (k0_off12_eq i) (fun a => ?_)).trans ?_
  · match a with
    | 0 => rfl
    | 1 => rfl
    | 2 => exact (Nat.zero_add _).symm
  simp only [View.readAt_eq_ld, harg1.read_unread, harg2.read_unread, harg3.read_unread, harg4.read_unread, harg5.read_unread, harg6.read_unread, harg7.read_unread]
  refine (store_apply _ r l).trans (congrFun ?_ _)
  refine tile_of_slots (slotOf x0 x1 x2 x3 x4 x5 x6 2 1) _ _ _ _ _ _ _ _ ?_ ?_ ?_ ?_ ?_ ?_ ?_ ?_
  all_goals refine Eq.trans (b := slot _ _ _ _ _ _ _ _) (by unfold slot; open_payloads; rfl) ?_
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)

/-- Rows 128 to 255 of the tile's plane of the scratch buffer. -/
theorem storeA1 (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .f32) (harg3 : arg3.IsWhole) (arg4 : Memref sig .tc .vmem S512x512 .f32) (harg4 : arg4.IsWhole) (arg5 : Memref sig .tc .vmem S1x256x128 .f32) (harg5 : arg5.IsWhole) (arg6 : Memref sig .tc .vmem S1x256x512 .f32) (harg6 : arg6.IsWhole) (arg7 : Memref sig .tc .vmem S2x8x256x256 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S2x512x1024 .bf16) (harg15 : arg15.IsWhole) (hc0 : cond0_0 i)
    (x0 : Vec Ideal S16 .f32) (x1 : Vec Ideal S512x1024 .bf16) (x2 : Vec Ideal S128x512 .f32) (x3 : Vec Ideal S512x512 .f32) (x4 : Vec Ideal S1x256x128 .f32) (x5 : Vec Ideal S1x256x512 .f32) (x6 : Vec Ideal S2x8x256x256 .f32) (x7 : Vec Ideal S1024x1024 .bf16) (x8 : Vec Ideal S512x1024 .f32) (x9 : Vec Ideal S1x1024 .f32) (x10 : Vec Ideal S1024x5632 .bf16) (x11 : Vec Ideal S2816x1024 .bf16) (r : Fin 128) (l : Fin 1024) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 (ix3 ⟨(i 0).val % 2, Nat.mod_lt _ (by decide)⟩ ⟨128 + r.val, by omega⟩ l)
      = tile (slotOf x0 x1 x2 x3 x4 x5 x6 1 1) (ix2 r l) := by
  unfold sout0_A_1
  unfold kernelRun0_A; dsimp only; sl_unfold_words
  refine (View.read_writes_cons_unit_of_not_mem _ _ _ _ _ _ (k0_off13_eq i) 1
    (Or.inl (show 128 + r.val < 384 by omega))).trans ?_
  refine (View.read_writes_cons_unit_of_not_mem _ _ _ _ _ _ (k0_off12_eq i) 1
    (Or.inl (show 128 + r.val < 256 by omega))).trans ?_
  refine (View.read_writes_cons_unit_of_mem _ _ _ _ _ _ (ix3 0 r l) (k0_off11_eq i) (fun a => ?_)).trans ?_
  · match a with
    | 0 => rfl
    | 1 => rfl
    | 2 => exact (Nat.zero_add _).symm
  simp only [View.readAt_eq_ld, harg1.read_unread, harg2.read_unread, harg3.read_unread, harg4.read_unread, harg5.read_unread, harg6.read_unread, harg7.read_unread]
  refine (store_apply _ r l).trans (congrFun ?_ _)
  refine tile_of_slots (slotOf x0 x1 x2 x3 x4 x5 x6 1 1) _ _ _ _ _ _ _ _ ?_ ?_ ?_ ?_ ?_ ?_ ?_ ?_
  all_goals refine Eq.trans (b := slot _ _ _ _ _ _ _ _) (by unfold slot; open_payloads; rfl) ?_
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)

/-- Rows 0 to 127 of the tile's plane of the scratch buffer. -/
theorem storeA0 (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .f32) (harg3 : arg3.IsWhole) (arg4 : Memref sig .tc .vmem S512x512 .f32) (harg4 : arg4.IsWhole) (arg5 : Memref sig .tc .vmem S1x256x128 .f32) (harg5 : arg5.IsWhole) (arg6 : Memref sig .tc .vmem S1x256x512 .f32) (harg6 : arg6.IsWhole) (arg7 : Memref sig .tc .vmem S2x8x256x256 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S2x512x1024 .bf16) (harg15 : arg15.IsWhole) (hc0 : cond0_0 i)
    (x0 : Vec Ideal S16 .f32) (x1 : Vec Ideal S512x1024 .bf16) (x2 : Vec Ideal S128x512 .f32) (x3 : Vec Ideal S512x512 .f32) (x4 : Vec Ideal S1x256x128 .f32) (x5 : Vec Ideal S1x256x512 .f32) (x6 : Vec Ideal S2x8x256x256 .f32) (x7 : Vec Ideal S1024x1024 .bf16) (x8 : Vec Ideal S512x1024 .f32) (x9 : Vec Ideal S1x1024 .f32) (x10 : Vec Ideal S1024x5632 .bf16) (x11 : Vec Ideal S2816x1024 .bf16) (r : Fin 128) (l : Fin 1024) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 (ix3 ⟨(i 0).val % 2, Nat.mod_lt _ (by decide)⟩ ⟨0 + r.val, by omega⟩ l)
      = tile (slotOf x0 x1 x2 x3 x4 x5 x6 0 (variant i)) (ix2 r l) := by
  unfold sout0_A_1
  unfold kernelRun0_A; dsimp only; sl_unfold_words
  refine (View.read_writes_cons_unit_of_not_mem _ _ _ _ _ _ (k0_off13_eq i) 1
    (Or.inl (show 0 + r.val < 384 by omega))).trans ?_
  refine (View.read_writes_cons_unit_of_not_mem _ _ _ _ _ _ (k0_off12_eq i) 1
    (Or.inl (show 0 + r.val < 256 by omega))).trans ?_
  refine (View.read_writes_cons_unit_of_not_mem _ _ _ _ _ _ (k0_off11_eq i) 1
    (Or.inl (show 0 + r.val < 128 by omega))).trans ?_
  refine (View.read_writes_cons_unit_of_mem _ _ _ _ _ _ (ix3 0 r l) (k0_off10_eq i) (fun a => ?_)).trans ?_
  · match a with
    | 0 => rfl
    | 1 => exact rfl
    | 2 => exact (Nat.zero_add _).symm
  simp only [View.readAt_eq_ld, harg1.read_unread, harg2.read_unread, harg3.read_unread, harg4.read_unread, harg5.read_unread, harg6.read_unread, harg7.read_unread]
  refine (store_apply _ r l).trans (congrFun ?_ _)
  refine tile_of_slots (slotOf x0 x1 x2 x3 x4 x5 x6 0 (variant i)) _ _ _ _ _ _ _ _ ?_ ?_ ?_ ?_ ?_ ?_ ?_ ?_
  all_goals refine Eq.trans (b := slot _ _ _ _ _ _ _ _) (by unfold slot; open_payloads; rfl) ?_
  · exact slotOf_of_eq (ld_sink _ _ _ _) (ld_sink _ _ _ _) (ld_prev _ _ _) (ld_keys _ _ _ _) (ld_before _ _ _) (ld_vals _ _ _ _) (ld_query _ _ _ _) (ld_bias x6 (variant i) 0 _ (k0_off2_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 1 _ (k0_off3_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 2 _ (k0_off4_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 3 _ (k0_off5_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 4 _ (k0_off6_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 5 _ (k0_off7_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 6 _ (k0_off8_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 7 _ (k0_off9_eq i) _)

end Cert.KernelIdeal.Hand
-- ==== Proof.AttnStoreB.lean ====
module

public import proofs.«01_k».proof.Proof.Gen.KernelIdeal.Value
public import proofs.«01_k».proof.Proof.AttnLoad
public import Idealize.ShloMosaic.Lib.ValueIdx
public import Idealize.ShloMosaic.Lib.Pipeline.ValueKit.Point
public import Idealize.ShloMosaic.Lib.WritesUnit
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

/-- Rows 384 to 511 of the tile's plane of the scratch buffer. -/
theorem storeB3 (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .f32) (harg3 : arg3.IsWhole) (arg4 : Memref sig .tc .vmem S512x512 .f32) (harg4 : arg4.IsWhole) (arg5 : Memref sig .tc .vmem S1x256x128 .f32) (harg5 : arg5.IsWhole) (arg6 : Memref sig .tc .vmem S1x256x512 .f32) (harg6 : arg6.IsWhole) (arg7 : Memref sig .tc .vmem S2x8x256x256 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S2x512x1024 .bf16) (harg15 : arg15.IsWhole) (hc0 : ¬cond0_0 i)
    (x0 : Vec Ideal S16 .f32) (x1 : Vec Ideal S512x1024 .bf16) (x2 : Vec Ideal S128x512 .f32) (x3 : Vec Ideal S512x512 .f32) (x4 : Vec Ideal S1x256x128 .f32) (x5 : Vec Ideal S1x256x512 .f32) (x6 : Vec Ideal S2x8x256x256 .f32) (x7 : Vec Ideal S1024x1024 .bf16) (x8 : Vec Ideal S512x1024 .f32) (x9 : Vec Ideal S1x1024 .f32) (x10 : Vec Ideal S1024x5632 .bf16) (x11 : Vec Ideal S2816x1024 .bf16) (xs1 : Vec Ideal S2x512x1024 .bf16) (r : Fin 128) (l : Fin 1024) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs1 (ix3 ⟨(i 0).val % 2, Nat.mod_lt _ (by decide)⟩ ⟨384 + r.val, by omega⟩ l)
      = tile (slotOf x0 x1 x2 x3 x4 x5 x6 3 1) (ix2 r l) := by
  unfold sout0_B_1
  unfold kernelRun0_B; dsimp only; sl_unfold_words
  refine (View.read_writes_cons_unit_of_mem _ _ _ _ _ _ (ix3 0 r l) (k0_off13_eq i) (fun a => ?_)).trans ?_
  · match a with
    | 0 => rfl
    | 1 => rfl
    | 2 => exact (Nat.zero_add _).symm
  simp only [View.readAt_eq_ld, harg1.read_unread, harg2.read_unread, harg3.read_unread, harg4.read_unread, harg5.read_unread, harg6.read_unread, harg7.read_unread]
  refine (store_apply _ r l).trans (congrFun ?_ _)
  refine tile_of_slots (slotOf x0 x1 x2 x3 x4 x5 x6 3 1) _ _ _ _ _ _ _ _ ?_ ?_ ?_ ?_ ?_ ?_ ?_ ?_
  all_goals refine Eq.trans (b := slot _ _ _ _ _ _ _ _) (by unfold slot; open_payloads; rfl) ?_
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)

/-- Rows 256 to 383 of the tile's plane of the scratch buffer. -/
theorem storeB2 (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .f32) (harg3 : arg3.IsWhole) (arg4 : Memref sig .tc .vmem S512x512 .f32) (harg4 : arg4.IsWhole) (arg5 : Memref sig .tc .vmem S1x256x128 .f32) (harg5 : arg5.IsWhole) (arg6 : Memref sig .tc .vmem S1x256x512 .f32) (harg6 : arg6.IsWhole) (arg7 : Memref sig .tc .vmem S2x8x256x256 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S2x512x1024 .bf16) (harg15 : arg15.IsWhole) (hc0 : ¬cond0_0 i)
    (x0 : Vec Ideal S16 .f32) (x1 : Vec Ideal S512x1024 .bf16) (x2 : Vec Ideal S128x512 .f32) (x3 : Vec Ideal S512x512 .f32) (x4 : Vec Ideal S1x256x128 .f32) (x5 : Vec Ideal S1x256x512 .f32) (x6 : Vec Ideal S2x8x256x256 .f32) (x7 : Vec Ideal S1024x1024 .bf16) (x8 : Vec Ideal S512x1024 .f32) (x9 : Vec Ideal S1x1024 .f32) (x10 : Vec Ideal S1024x5632 .bf16) (x11 : Vec Ideal S2816x1024 .bf16) (xs1 : Vec Ideal S2x512x1024 .bf16) (r : Fin 128) (l : Fin 1024) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs1 (ix3 ⟨(i 0).val % 2, Nat.mod_lt _ (by decide)⟩ ⟨256 + r.val, by omega⟩ l)
      = tile (slotOf x0 x1 x2 x3 x4 x5 x6 2 1) (ix2 r l) := by
  unfold sout0_B_1
  unfold kernelRun0_B; dsimp only; sl_unfold_words
  refine (View.read_writes_cons_unit_of_not_mem _ _ _ _ _ _ (k0_off13_eq i) 1
    (Or.inl (show 256 + r.val < 384 by omega))).trans ?_
  refine (View.read_writes_cons_unit_of_mem _ _ _ _ _ _ (ix3 0 r l) (k0_off12_eq i) (fun a => ?_)).trans ?_
  · match a with
    | 0 => rfl
    | 1 => rfl
    | 2 => exact (Nat.zero_add _).symm
  simp only [View.readAt_eq_ld, harg1.read_unread, harg2.read_unread, harg3.read_unread, harg4.read_unread, harg5.read_unread, harg6.read_unread, harg7.read_unread]
  refine (store_apply _ r l).trans (congrFun ?_ _)
  refine tile_of_slots (slotOf x0 x1 x2 x3 x4 x5 x6 2 1) _ _ _ _ _ _ _ _ ?_ ?_ ?_ ?_ ?_ ?_ ?_ ?_
  all_goals refine Eq.trans (b := slot _ _ _ _ _ _ _ _) (by unfold slot; open_payloads; rfl) ?_
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)

/-- Rows 128 to 255 of the tile's plane of the scratch buffer. -/
theorem storeB1 (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .f32) (harg3 : arg3.IsWhole) (arg4 : Memref sig .tc .vmem S512x512 .f32) (harg4 : arg4.IsWhole) (arg5 : Memref sig .tc .vmem S1x256x128 .f32) (harg5 : arg5.IsWhole) (arg6 : Memref sig .tc .vmem S1x256x512 .f32) (harg6 : arg6.IsWhole) (arg7 : Memref sig .tc .vmem S2x8x256x256 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S2x512x1024 .bf16) (harg15 : arg15.IsWhole) (hc0 : ¬cond0_0 i)
    (x0 : Vec Ideal S16 .f32) (x1 : Vec Ideal S512x1024 .bf16) (x2 : Vec Ideal S128x512 .f32) (x3 : Vec Ideal S512x512 .f32) (x4 : Vec Ideal S1x256x128 .f32) (x5 : Vec Ideal S1x256x512 .f32) (x6 : Vec Ideal S2x8x256x256 .f32) (x7 : Vec Ideal S1024x1024 .bf16) (x8 : Vec Ideal S512x1024 .f32) (x9 : Vec Ideal S1x1024 .f32) (x10 : Vec Ideal S1024x5632 .bf16) (x11 : Vec Ideal S2816x1024 .bf16) (xs1 : Vec Ideal S2x512x1024 .bf16) (r : Fin 128) (l : Fin 1024) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs1 (ix3 ⟨(i 0).val % 2, Nat.mod_lt _ (by decide)⟩ ⟨128 + r.val, by omega⟩ l)
      = tile (slotOf x0 x1 x2 x3 x4 x5 x6 1 1) (ix2 r l) := by
  unfold sout0_B_1
  unfold kernelRun0_B; dsimp only; sl_unfold_words
  refine (View.read_writes_cons_unit_of_not_mem _ _ _ _ _ _ (k0_off13_eq i) 1
    (Or.inl (show 128 + r.val < 384 by omega))).trans ?_
  refine (View.read_writes_cons_unit_of_not_mem _ _ _ _ _ _ (k0_off12_eq i) 1
    (Or.inl (show 128 + r.val < 256 by omega))).trans ?_
  refine (View.read_writes_cons_unit_of_mem _ _ _ _ _ _ (ix3 0 r l) (k0_off11_eq i) (fun a => ?_)).trans ?_
  · match a with
    | 0 => rfl
    | 1 => rfl
    | 2 => exact (Nat.zero_add _).symm
  simp only [View.readAt_eq_ld, harg1.read_unread, harg2.read_unread, harg3.read_unread, harg4.read_unread, harg5.read_unread, harg6.read_unread, harg7.read_unread]
  refine (store_apply _ r l).trans (congrFun ?_ _)
  refine tile_of_slots (slotOf x0 x1 x2 x3 x4 x5 x6 1 1) _ _ _ _ _ _ _ _ ?_ ?_ ?_ ?_ ?_ ?_ ?_ ?_
  all_goals refine Eq.trans (b := slot _ _ _ _ _ _ _ _) (by unfold slot; open_payloads; rfl) ?_
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)
  · exact slotOf_of_eq (ld_sink _ _ _ _) (ld_sink _ _ _ _) (ld_keys _ _ _ _) (ld_keys _ _ _ _) (ld_vals _ _ _ _) (ld_vals _ _ _ _) (ld_query _ _ _ _) (ld_bias_lit _ _ _ _)

/-- Rows 0 to 127 of the tile's plane of the scratch buffer. -/
theorem storeB0 (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .f32) (harg3 : arg3.IsWhole) (arg4 : Memref sig .tc .vmem S512x512 .f32) (harg4 : arg4.IsWhole) (arg5 : Memref sig .tc .vmem S1x256x128 .f32) (harg5 : arg5.IsWhole) (arg6 : Memref sig .tc .vmem S1x256x512 .f32) (harg6 : arg6.IsWhole) (arg7 : Memref sig .tc .vmem S2x8x256x256 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S2x512x1024 .bf16) (harg15 : arg15.IsWhole) (hc0 : ¬cond0_0 i)
    (x0 : Vec Ideal S16 .f32) (x1 : Vec Ideal S512x1024 .bf16) (x2 : Vec Ideal S128x512 .f32) (x3 : Vec Ideal S512x512 .f32) (x4 : Vec Ideal S1x256x128 .f32) (x5 : Vec Ideal S1x256x512 .f32) (x6 : Vec Ideal S2x8x256x256 .f32) (x7 : Vec Ideal S1024x1024 .bf16) (x8 : Vec Ideal S512x1024 .f32) (x9 : Vec Ideal S1x1024 .f32) (x10 : Vec Ideal S1024x5632 .bf16) (x11 : Vec Ideal S2816x1024 .bf16) (xs1 : Vec Ideal S2x512x1024 .bf16) (r : Fin 128) (l : Fin 1024) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs1 (ix3 ⟨(i 0).val % 2, Nat.mod_lt _ (by decide)⟩ ⟨0 + r.val, by omega⟩ l)
      = tile (slotOf x0 x1 x2 x3 x4 x5 x6 0 (variant i)) (ix2 r l) := by
  unfold sout0_B_1
  unfold kernelRun0_B; dsimp only; sl_unfold_words
  refine (View.read_writes_cons_unit_of_not_mem _ _ _ _ _ _ (k0_off13_eq i) 1
    (Or.inl (show 0 + r.val < 384 by omega))).trans ?_
  refine (View.read_writes_cons_unit_of_not_mem _ _ _ _ _ _ (k0_off12_eq i) 1
    (Or.inl (show 0 + r.val < 256 by omega))).trans ?_
  refine (View.read_writes_cons_unit_of_not_mem _ _ _ _ _ _ (k0_off11_eq i) 1
    (Or.inl (show 0 + r.val < 128 by omega))).trans ?_
  refine (View.read_writes_cons_unit_of_mem _ _ _ _ _ _ (ix3 0 r l) (k0_off10_eq i) (fun a => ?_)).trans ?_
  · match a with
    | 0 => rfl
    | 1 => exact rfl
    | 2 => exact (Nat.zero_add _).symm
  simp only [View.readAt_eq_ld, harg1.read_unread, harg2.read_unread, harg3.read_unread, harg4.read_unread, harg5.read_unread, harg6.read_unread, harg7.read_unread]
  refine (store_apply _ r l).trans (congrFun ?_ _)
  refine tile_of_slots (slotOf x0 x1 x2 x3 x4 x5 x6 0 (variant i)) _ _ _ _ _ _ _ _ ?_ ?_ ?_ ?_ ?_ ?_ ?_ ?_
  all_goals refine Eq.trans (b := slot _ _ _ _ _ _ _ _) (by unfold slot; open_payloads; rfl) ?_
  · exact slotOf_of_eq (ld_sink _ _ _ _) (ld_sink _ _ _ _) (ld_prev _ _ _) (ld_keys _ _ _ _) (ld_before _ _ _) (ld_vals _ _ _ _) (ld_query _ _ _ _) (ld_bias x6 (variant i) 0 _ (k0_off2_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 1 _ (k0_off3_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 2 _ (k0_off4_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 3 _ (k0_off5_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 4 _ (k0_off6_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 5 _ (k0_off7_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 6 _ (k0_off8_eq i) _)
  · exact slotOf_of_eq (ld_sink _ _ _ _) (ld_sink _ _ _ _) (ld_prev _ _ _) (ld_keys _ _ _ _) (ld_before _ _ _) (ld_vals _ _ _ _) (ld_query _ _ _ _) (ld_bias x6 (variant i) 7 _ (k0_off9_eq i) _)

end Cert.KernelIdeal.Hand
-- ==== Proof.AttnArray.lean ====
/- The attention call: the scratch buffer and the result array over the argument arrays. -/
module

public import proofs.«01_k».proof.Proof.AttnValue
public import proofs.«01_k».proof.Proof.AttnStoreA
public import proofs.«01_k».proof.Proof.AttnStoreB
public import proofs.«01_k».proof.Proof.AttnOut

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

variable (m : (ℓ : Loc nD τ sig) → Buf (Elt Ideal) ℓ)

theorem ix3_congr {n0 n1 n2 : Nat} {a a' : Fin n0} {b b' : Fin n1} {e e' : Fin n2}
    (h0 : a.val = a'.val) (h1 : b.val = b'.val) (h2 : e.val = e'.val) : ix3 a b e = ix3 a' b' e' := by
  rw [Fin.ext h0, Fin.ext h1, Fin.ext h2]

theorem variant_eq (t : Fin cfg0.N) (ht : t.val < 64) : variant (grid0.coords t) = variantAt t 0 := by
  have e : min ((grid0.coords t) 0).val 63 % 8 = t.val % 8 := by rw [coord t]; omega
  apply Fin.ext
  by_cases h : t.val % 8 = 0 <;> simp [variant, variantAt, e, h]

/-- After a tile's point its plane of the scratch buffer holds the tile's attention rows. -/
theorem scratch (c : Dev nD) (t : Fin cfg0.N) (ht : t.val < 64) (R : Fin 512) (l : Fin 1024) (n : Fin 32768)
    (hn : n.val = 512 * t.val + R.val) :
    (outsAt0 m c t.val t.isLt).2 (ix3 ⟨t.val % 2, Nat.mod_lt _ (by decide)⟩ R l)
      = attn (m ((c : Thread nD τ).loc main_arg1)) (m ((c : Thread nD τ).loc main_arg2)) (m ((c : Thread nD τ).loc main_arg3))
          (m ((c : Thread nD τ).loc main_arg4)) (m ((c : Thread nD τ).loc main_arg5)) n l := by
  by_cases h0 : t.val % 65 = 0
  · rw [outsAt0_A m c t h0]
    dsimp only
    by_cases h1 : R.val < 128
    · refine Eq.trans (congrArg _ ?_) ((storeA0 _ _ _ _ _ _ _ _ _ _ _ _ _ _ _ _ _ _ _ _ _ _ _ _ _ _ _ _ _ _ _ _ _ _ _ _ _ _ _ _ _ _ _ _ _ ⟨R.val - 0, by omega⟩ l).trans (tile_value m c t ht 0 ⟨R.val - 0, by omega⟩ l n (by dsimp only; omega) _ (variant_eq t ht)))
      exact ix3_congr (by simp only [coord t]) (by dsimp only; omega) rfl
    by_cases h2 : R.val < 256
    · refine Eq.trans (congrArg _ ?_) ((storeA1 _ _ _ _ _ _ _ _ _ _ _ _ _ _ _ _ _ _ _ _ _ _ _ _ _ _ _ _ _ _ _ _ _ _ _ _ _ _ _ _ _ _ _ _ _ ⟨R.val - 128, by omega⟩ l).trans (tile_value m c t ht 1 ⟨R.val - 128, by omega⟩ l n (by dsimp only; omega) _ (by simp [variantAt])))
      exact ix3_congr (by simp only [coord t]) (by dsimp only; omega) rfl
    by_cases h3 : R.val < 384
    · refine Eq.trans (congrArg _ ?_) ((storeA2 _ _ _ _ _ _ _ _ _ _ _ _ _ _ _ _ _ _ _ _ _ _ _ _ _ _ _ _ _ _ _ _ _ _ _ _ _ _ _ _ _ _ _ _ _ ⟨R.val - 256, by omega⟩ l).trans (tile_value m c t ht 2 ⟨R.val - 256, by omega⟩ l n (by dsimp only; omega) _ (by simp [variantAt])))
      exact ix3_congr (by simp only [coord t]) (by dsimp only; omega) rfl
    refine Eq.trans (congrArg _ ?_) ((storeA3 _ _ _ _ _ _ _ _ _ _ _ _ _ _ _ _ _ _ _ _ _ _ _ _ _ _ _ _ _ _ _ _ _ _ _ _ _ _ _ _ _ _ _ _ _ ⟨R.val - 384, by omega⟩ l).trans (tile_value m c t ht 3 ⟨R.val - 384, by omega⟩ l n (by dsimp only; omega) _ (by simp [variantAt])))
    exact ix3_congr (by simp only [coord t]) (by dsimp only; omega) rfl
  · rw [outsAt0_B m c t h0]
    dsimp only
    by_cases h1 : R.val < 128
    · refine Eq.trans (congrArg _ ?_) ((storeB0 _ _ _ _ _ _ _ _ _ _ _ _ _ _ _ _ _ _ _ _ _ _ _ _ _ _ _ _ _ _ _ _ _ _ _ _ _ _ _ _ _ _ _ _ _ _ ⟨R.val - 0, by omega⟩ l).trans (tile_value m c t ht 0 ⟨R.val - 0, by omega⟩ l n (by dsimp only; omega) _ (variant_eq t ht)))
      exact ix3_congr (by simp only [coord t]) (by dsimp only; omega) rfl
    by_cases h2 : R.val < 256
    · refine Eq.trans (congrArg _ ?_) ((storeB1 _ _ _ _ _ _ _ _ _ _ _ _ _ _ _ _ _ _ _ _ _ _ _ _ _ _ _ _ _ _ _ _ _ _ _ _ _ _ _ _ _ _ _ _ _ _ ⟨R.val - 128, by omega⟩ l).trans (tile_value m c t ht 1 ⟨R.val - 128, by omega⟩ l n (by dsimp only; omega) _ (by simp [variantAt])))
      exact ix3_congr (by simp only [coord t]) (by dsimp only; omega) rfl
    by_cases h3 : R.val < 384
    · refine Eq.trans (congrArg _ ?_) ((storeB2 _ _ _ _ _ _ _ _ _ _ _ _ _ _ _ _ _ _ _ _ _ _ _ _ _ _ _ _ _ _ _ _ _ _ _ _ _ _ _ _ _ _ _ _ _ _ ⟨R.val - 256, by omega⟩ l).trans (tile_value m c t ht 2 ⟨R.val - 256, by omega⟩ l n (by dsimp only; omega) _ (by simp [variantAt])))
      exact ix3_congr (by simp only [coord t]) (by dsimp only; omega) rfl
    refine Eq.trans (congrArg _ ?_) ((storeB3 _ _ _ _ _ _ _ _ _ _ _ _ _ _ _ _ _ _ _ _ _ _ _ _ _ _ _ _ _ _ _ _ _ _ _ _ _ _ _ _ _ _ _ _ _ _ ⟨R.val - 384, by omega⟩ l).trans (tile_value m c t ht 3 ⟨R.val - 384, by omega⟩ l n (by dsimp only; omega) _ (by simp [variantAt])))
    exact ix3_congr (by simp only [coord t]) (by dsimp only; omega) rfl

/-- A point's result block, one row at a time. -/
theorem block_apply (x7 : Vec Ideal S1024x1024 .bf16) (x8 : Vec Ideal S512x1024 .f32) (x9 : Vec Ideal S1x1024 .f32)
    (x10 : Vec Ideal S1024x5632 .bf16) (x11 : Vec Ideal S2816x1024 .bf16) (p : Vec Ideal S1x512x1024 .bf16) (r : Fin 512) (l : Fin 1024) :
    k0_pay266 (k0_pay13 x8 p x7) (acts (k0_pay13 x8 p x7) x9 x10) x11 (ix2 r l)
      = ffn (fun e => x8 (ix2 r e) + ∑ a : Fin 1024, p (ix3 0 r a) * x7 (ix2 a e)) (fun e => x9 (ix2 0 e))
          (fun f d => x10 (ix2 d (gateCol f))) (fun f d => x10 (ix2 d (upCol f))) (fun f j => x11 (ix2 f j)) l := by
  pointwise [k0_pay266, k0_pay13, acts, ffn, act, rms]

theorem flush_pos : ∀ t : Fin cfg0.N, (cfg0.win 12).flush t = true → ¬t.val % 65 = 0 :=
  (by decide +kernel : ∀ t : Fin grid0.N, _)

theorem attn_block (c : Dev nD) (t : Fin cfg0.N) (h0 : ¬t.val % 65 = 0) (r : Fin 512) (l : Fin 1024) (n : Fin 32768)
    (hn : n.val = 512 * (t.val - 1) + r.val) :
    (outsAt0 m c t.val t.isLt).1 (ix2 r l)
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (ix2 n l) := by
  have hN : t.val < 65 := t.isLt
  rw [outsAt0_B m c t h0]
  dsimp only
  rw [out_eq, block_apply]
  unfold G
  refine congr (congr (congr (congr (congr (congrArg ffn (funext fun e => ?_)) (funext fun e => ?_)) (funext fun f => funext fun d => ?_))
    (funext fun f => funext fun d => ?_)) (funext fun f => funext fun j => ?_)) rfl
  · unfold resid
    refine congr (congrArg HAdd.hAdd ?_) (Finset.sum_congr rfl fun a _ => congr (congrArg HMul.hMul ?_) ?_)
    · refine (iblk_row m c t r e).trans (congrArg _ (congr (congrArg _ (Fin.ext ?_)) rfl))
      exact hn.symm
    · unfold before
      refine Eq.trans (congrArg _ ?_) (scratch m c ⟨t.val - 1, by omega⟩ (by dsimp only; omega) r a n hn)
      exact ix3_congr (by simp only [coord t]; omega) rfl rfl
    · exact iblk_out m c t a e
  · exact iblk_gains m c t e
  · exact iblk_gate m c t d f
  · exact iblk_up m c t d f
  · exact iblk_down m c t f j

theorem final (c : Dev nD) : (dats m 0 c).arrAt 12 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 12 _ (by decide +kernel) fun t hf y => ?_
  blk_simp
  rw [after0_12]
  have hN : t.val < 65 := t.isLt
  have h0 := flush_pos t hf
  have hy0 : (y 0).val < 512 := (y 0).isLt
  have hy1 : (y 1).val < 1024 := (y 1).isLt
  refine Eq.trans (congrArg _ ?_) ((attn_block m c t h0 ⟨(y 0).val, hy0⟩ ⟨(y 1).val, hy1⟩ ⟨512 * (t.val - 1) + (y 0).val, by omega⟩ rfl).trans
    (congrArg _ ?_))
  · funext a
    fin_cases a <;> rfl
  · blk_ext! [idx t]

end Cert.KernelIdeal.Hand
end
-- ==== Proof.AttnRef.lean ====
/- The attention reference: its arrays at an index. -/
module

public import proofs.«01_k».proof.Proof.AttnSpec
public import proofs.«01_k».proof.Proof.AttnMask
public import proofs.«01_k».proof.Proof.Gen.ReferenceIdeal.Read
public import proofs.«01_k».proof.Proof.Gen.ReferenceIdeal.Run
public import Idealize.ShloMosaic.Lib.ValueIdx
public import Idealize.ShloMosaic.Lib.ValueIdxRank6
public import Idealize.ShloMosaic.Lib.Claim

@[expose] public section

set_option maxRecDepth 16384

noncomputable section

namespace Cert.ReferenceIdeal.Hand

open Cert.ReferenceIdeal Cert.ReferenceIdeal.Read
open Idealize.ShloMosaic Idealize.ShloMosaic.TcCoe Idealize.SL.Sem
open Cert.Spec
open Cert.KernelIdeal.Hand (Seen keyPos seqOf scoreAt valueAt)

/-- A key that exists, in the band of a block: its own block's or the one before. -/
theorem band_key (k : FVec Ideal S8x4096x4x64 .f32) (b : Fin 8) (n : Fin 32) (κ : Fin 256) (g : Fin 4) (d : Fin 64) (h : 0 < n.val ∨ 128 ≤ κ.val) :
    val_main_v5 (F := Ideal) k (ix5 b n κ g d) = k (ix4 b ⟨128 * n.val + κ.val - 128, by omega⟩ g d) := by
  pointwise [val_main_v5, val_main_v4, val_main_v3, val_main_v2]
  by_cases hκ : κ.val < 128
  · rw [dif_pos hκ, dif_pos (by omega)]
    refine congrArg k ?_
    blk_ext! []
  · rw [dif_neg hκ]
    refine congrArg k ?_
    blk_ext! []

/-- A key that exists, in the band of a block: its own block's or the one before. -/
theorem band_value (k : FVec Ideal S8x4096x4x64 .f32) (b : Fin 8) (n : Fin 32) (κ : Fin 256) (g : Fin 4) (d : Fin 64) (h : 0 < n.val ∨ 128 ≤ κ.val) :
    val_main_v9 (F := Ideal) k (ix5 b n κ g d) = k (ix4 b ⟨128 * n.val + κ.val - 128, by omega⟩ g d) := by
  pointwise [val_main_v9, val_main_v8, val_main_v7, val_main_v6]
  by_cases hκ : κ.val < 128
  · rw [dif_pos hκ, dif_pos (by omega)]
    refine congrArg k ?_
    blk_ext! []
  · rw [dif_neg hκ]
    refine congrArg k ?_
    blk_ext! []

theorem query_at (q : FVec Ideal S32768x1024 .bf16) (b : Fin 8) (n : Fin 32) (r : Fin 128) (g h : Fin 4) (d : Fin 64) :
    val_main_v1 (F := Ideal) q (ix6 b n r g h d)
      = q (ix2 ⟨4096 * b.val + 128 * n.val + r.val, by omega⟩ ⟨64 * (4 * g.val + h.val) + d.val, by omega⟩) := by
  pointwise [val_main_v1, val_main_v0]
  refine congrArg q ?_
  blk_ext! []

theorem mask_at (n : Fin 32) (r : Fin 128) (κ : Fin 256) :
    val_main_v37 (F := Ideal) (ix3 n r κ)
      = if (κ.val ≤ r.val + 128 ∧ r.val < κ.val) ∧ (0 < n.val ∨ 128 ≤ κ.val) then 1#1 else 0#1 := by
  pointwise [val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_c_1, val_main_c_2, val_main_c_3, val_main_c_4, val_main_c_5]
  rw [dist_ge _ _ r.isLt κ.isLt, dist_lt _ _ r.isLt κ.isLt, block_gt _ n.isLt, own_ge _ κ.isLt, and_bit, or_bit, and_bit]

/-- The row of the arrays with one axis for all positions. -/
abbrev row (b : Fin 8) (n : Fin 32) (r : Fin 128) : Fin 32768 := ⟨4096 * b.val + 128 * n.val + r.val, by omega⟩

/-- The query head of a group's member. -/
abbrev head (g h : Fin 4) : Fin 16 := ⟨4 * g.val + h.val, by omega⟩

theorem score_at (q : FVec Ideal S32768x1024 .bf16) (k : FVec Ideal S8x4096x4x64 .f32) (bias : FVec Ideal S16x128x256 .f32)
    (b : Fin 8) (n : Fin 32) (g h : Fin 4) (r : Fin 128) (κ : Fin 256) :
    val_main_v45 (F := Ideal) q k bias (ix6 b n g h r κ) = scoreAt q k bias (row b n r) (head g h) κ := by
  pointwise [val_main_v38, val_main_v39, val_main_v40, val_main_v41, val_main_v42, val_main_v43, val_main_v44, val_main_v45, val_main_cst, val_main_call2_v0, val_main_call2_v1, val_main_call2_v2]
  have e : (id (constant (F := Ideal) S_ FTy.f32 4286578688#32) ix0 : EReal) = ⊥ := bot_word
  have e1 : (⟨g.val * 4 + h.val, by omega⟩ : Fin 16) = head g h := Fin.ext (by dsimp only; omega)
  have e2 : (⟨(row b n r).val % 128, by omega⟩ : Fin 128) = r := Fin.ext (by dsimp only; omega)
  have e3 : Seen (row b n r) κ ↔ (κ.val ≤ r.val + 128 ∧ r.val < κ.val) ∧ (0 < n.val ∨ 128 ≤ κ.val) := by
    have hr : (row b n r).val % 128 = r.val := by dsimp only; omega
    unfold Seen
    rw [hr]
    refine and_congr_right fun _ => or_congr_left ?_
    dsimp only
    constructor <;> intro _ <;> omega
  rw [mask_at, select_bit, e, e1]
  unfold scoreAt
  by_cases hs : Seen (row b n r) κ
  · rw [if_pos hs, if_pos (e3.mp hs), e2]
    refine congrArg (· + _) (Finset.sum_congr rfl fun d _ => ?_)
    rw [band_key k b n κ g d (e3.mp hs).2, query_at]
    refine congrArg (· * _) (congrArg k ?_)
    have h0 : b = seqOf (row b n r) := Fin.ext (by simp only [seqOf]; omega)
    have h1 : (⟨128 * n.val + κ.val - 128, by omega⟩ : Fin 4096) = keyPos (row b n r) κ := Fin.ext (by simp only [keyPos]; omega)
    have h2 : g = ⟨(head g h).val / 4, by omega⟩ := Fin.ext (by dsimp only; omega)
    rw [← h0, h1, ← h2]
  · rw [if_neg hs, if_neg (fun h => hs (e3.mpr h))]

theorem max_at (s : FVec Ideal S8x32x4x4x128x256 .f32) (c : EReal)
    (b : Fin 8) (n : Fin 32) (g h : Fin 4) (r : Fin 128) :
    Finset.fold max c s (Finset.univ.filter fun i => Gen.reducesTo_S8x32x4x4x128x256_S8x32x4x4x128_d5.drop i = ix5 b n g h r)
      = Finset.univ.fold max c fun κ => s (ix6 b n g h r κ) := by
  refine Finset.fold_filter_eq_fold_of_fiber max _ (fun κ : Fin 256 => ix6 b n g h r κ) (fun _ _ e => congrFun e 5) (fun i => ?_) c s
  constructor
  · intro e
    refine ⟨i 5, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨κ, rfl⟩
    funext a
    apply Fin.ext
    match a with
    | ⟨0, _⟩ => rfl
    | ⟨1, _⟩ => rfl
    | ⟨2, _⟩ => rfl
    | ⟨3, _⟩ => rfl
    | ⟨4, _⟩ => rfl

theorem rowMax_at (q : FVec Ideal S32768x1024 .bf16) (k : FVec Ideal S8x4096x4x64 .f32) (bias : FVec Ideal S16x128x256 .f32)
    (b : Fin 8) (n : Fin 32) (g h : Fin 4) (r : Fin 128) :
    val_main_v48 (F := Ideal) q k bias (ix5 b n g h r)
      = Finset.univ.fold max (Ideal.ofBits FTy.f32 0xFF800000#32) (fun κ => val_main_v45 (F := Ideal) q k bias (ix6 b n g h r κ)) := by
  unfold val_main_v48
  generalize val_main_v45 (F := Ideal) q k bias = s
  pointwise []
  exact max_at s _ b n g h r

end Cert.ReferenceIdeal.Hand
end
-- ==== Proof.AttnRefSoft.lean ====
/- The attention reference: its softmax at an index. -/
module

public import proofs.«01_k».proof.Proof.AttnRef
public import proofs.«01_k».proof.Proof.Gen.ReferenceIdeal.Read
public import proofs.«01_k».proof.Proof.Gen.ReferenceIdeal.Run
public import Idealize.ShloMosaic.Lib.ValueIdx
public import Idealize.ShloMosaic.Lib.ValueIdxRank6
public import Idealize.ShloMosaic.Lib.Claim

@[expose] public section

set_option maxRecDepth 16384

noncomputable section

namespace Cert.ReferenceIdeal.Hand

open Cert.ReferenceIdeal Cert.ReferenceIdeal.Read
open Idealize.ShloMosaic Idealize.ShloMosaic.TcCoe Idealize.SL.Sem
open Cert.Spec
open Cert.KernelIdeal.Hand (Seen keyPos seqOf scoreAt valueAt)

theorem sink_at (z : FVec Ideal S16 .f32) (g h : Fin 4) (u : Fin 1) :
    val_main_v47 (F := Ideal) z (ix4 g h u u) = z (ix1 (head g h)) := by
  pointwise [val_main_v47, val_main_v46]
  exact congrArg z (congrArg ix1 (Fin.ext (by dsimp only; omega)))

theorem sinkMax_at (z : FVec Ideal S16 .f32) (b : Fin 8) (n : Fin 32) (g h : Fin 4) (r : Fin 128) (u : Fin 1) :
    val_main_v51 (F := Ideal) z (ix6 b n g h r u) = z (ix1 (head g h)) := by
  rw [val_main_v51_apply, val_main_v50_apply]
  refine Eq.trans (congrArg _ ?_) (sink_at z g h u)
  funext a
  fin_cases a <;> first | rfl | exact Subsingleton.elim (α := Fin 1) _ _

theorem sinkSum_at (z : FVec Ideal S16 .f32) (b : Fin 8) (n : Fin 32) (g h : Fin 4) (r : Fin 128) (u : Fin 1) :
    val_main_v59 (F := Ideal) z (ix6 b n g h r u) = z (ix1 (head g h)) := by
  rw [val_main_v59_apply, val_main_v58_apply]
  refine Eq.trans (congrArg _ ?_) (sink_at z g h u)
  funext a
  fin_cases a <;> first | rfl | exact Subsingleton.elim (α := Fin 1) _ _

theorem peak_at (q : FVec Ideal S32768x1024 .bf16) (k : FVec Ideal S8x4096x4x64 .f32) (bias : FVec Ideal S16x128x256 .f32)
    (z : FVec Ideal S16 .f32) (b : Fin 8) (n : Fin 32) (g h : Fin 4) (r : Fin 128) (u : Fin 1) :
    val_main_v52 (F := Ideal) q k bias z (ix6 b n g h r u) = peak (fun κ => val_main_v45 (F := Ideal) q k bias (ix6 b n g h r κ)) (z (ix1 (head g h))) := by
  rw [val_main_v52_apply, val_main_v49_apply, sinkMax_at]
  have e : idx_main_v49 (ix6 b n g h r u) = ix5 b n g h r := by
    funext a
    fin_cases a <;> rfl
  rw [e, rowMax_at]
  generalize val_main_v45 (F := Ideal) q k bias = s
  rfl

theorem weight_at (q : FVec Ideal S32768x1024 .bf16) (k : FVec Ideal S8x4096x4x64 .f32) (bias : FVec Ideal S16x128x256 .f32)
    (z : FVec Ideal S16 .f32) (b : Fin 8) (n : Fin 32) (g h : Fin 4) (r : Fin 128) (κ : Fin 256) :
    val_main_v55 (F := Ideal) q k bias z (ix6 b n g h r κ)
      = Ideal.exp (val_main_v45 (F := Ideal) q k bias (ix6 b n g h r κ) - peak (fun κ => val_main_v45 (F := Ideal) q k bias (ix6 b n g h r κ)) (z (ix1 (head g h)))) := by
  rw [val_main_v55_apply, val_main_v54_apply, val_main_v53_apply]
  have e : idx_main_v53 (ix6 b n g h r κ) = ix6 b n g h r 0 := by
    funext a
    fin_cases a <;> rfl
  rw [e, peak_at]
  generalize val_main_v45 (F := Ideal) q k bias = s
  rfl

theorem weights_at (q : FVec Ideal S32768x1024 .bf16) (k : FVec Ideal S8x4096x4x64 .f32) (bias : FVec Ideal S16x128x256 .f32)
    (z : FVec Ideal S16 .f32) (b : Fin 8) (n : Fin 32) (g h : Fin 4) (r : Fin 128) :
    val_main_v56 (F := Ideal) q k bias z (ix5 b n g h r)
      = ∑ κ : Fin 256, Ideal.exp (val_main_v45 (F := Ideal) q k bias (ix6 b n g h r κ) - peak (fun κ => val_main_v45 (F := Ideal) q k bias (ix6 b n g h r κ)) (z (ix1 (head g h)))) := by
  rw [val_main_v56_apply]
  refine Eq.trans (congrArg (· + _) (show _ = (0 : EReal) from ?_)) ((zero_add _).trans (Finset.sum_congr rfl fun κ _ => ?_))
  · pointwise [val_main_cst_7]
  · refine Eq.trans (congrArg _ ?_) (weight_at q k bias z b n g h r κ)
    funext a
    fin_cases a <;> rfl

theorem mass_at (q : FVec Ideal S32768x1024 .bf16) (k : FVec Ideal S8x4096x4x64 .f32) (bias : FVec Ideal S16x128x256 .f32)
    (z : FVec Ideal S16 .f32) (b : Fin 8) (n : Fin 32) (g h : Fin 4) (r : Fin 128) (u : Fin 1) :
    val_main_v62 (F := Ideal) q k bias z (ix6 b n g h r u) = mass (fun κ => val_main_v45 (F := Ideal) q k bias (ix6 b n g h r κ)) (z (ix1 (head g h))) := by
  rw [val_main_v62_apply, val_main_v61_apply, val_main_v60_apply, val_main_v57_apply, sinkSum_at, peak_at]
  have e : idx_main_v57 (ix6 b n g h r u) = ix5 b n g h r := by
    funext a
    fin_cases a <;> rfl
  rw [e, weights_at]
  generalize val_main_v45 (F := Ideal) q k bias = s
  rfl

/-- The reference's weighted sum of values, from its scores. -/
theorem weighted_at (q : FVec Ideal S32768x1024 .bf16) (k v : FVec Ideal S8x4096x4x64 .f32) (bias : FVec Ideal S16x128x256 .f32)
    (z : FVec Ideal S16 .f32) (b : Fin 8) (n : Fin 32) (g : Fin 4) (d : Fin 64) (h : Fin 4) (r : Fin 128) :
    val_main_v65 (F := Ideal) q k v bias z (ix6 b n g d h r)
      = soft (fun κ => val_main_v45 (F := Ideal) q k bias (ix6 b n g h r κ)) (z (ix1 (head g h)))
          (fun κ => val_main_v9 (F := Ideal) v (ix5 b n κ g d)) := by
  rw [val_main_v65_apply]
  refine Finset.sum_congr rfl fun κ _ => ?_
  have e : lidx_main_v65 (ix6 b n g d h r) κ = ix5 b n κ g d := by
    funext a
    fin_cases a <;> rfl
  have e1 : ridx_main_v65 (ix6 b n g d h r) κ = ix6 b n g h r κ := by
    funext a
    fin_cases a <;> rfl
  have e2 : idx_main_v63 (ix6 b n g h r κ) = ix6 b n g h r 0 := by
    funext a
    fin_cases a <;> rfl
  rw [e, e1, val_main_v64_apply, val_main_v63_apply, e2, weight_at, mass_at, mul_comm]
  generalize val_main_v45 (F := Ideal) q k bias = s
  rfl

theorem heads_at (q : FVec Ideal S32768x1024 .bf16) (k v : FVec Ideal S8x4096x4x64 .f32) (bias : FVec Ideal S16x128x256 .f32)
    (z : FVec Ideal S16 .f32) (n : Fin 32768) (l : Fin 1024) :
    val_main_v67 (F := Ideal) q k v bias z (ix2 n l)
      = val_main_v65 (F := Ideal) q k v bias z (ix6 ⟨n.val / 4096, by omega⟩ ⟨n.val % 4096 / 128, by omega⟩ ⟨l.val / 256, by omega⟩
          ⟨l.val % 64, by omega⟩ ⟨l.val / 64 % 4, by omega⟩ ⟨n.val % 128, by omega⟩) := by
  pointwise [val_main_v67, val_main_v66]
  refine congrArg _ ?_
  blk_ext! []

end Cert.ReferenceIdeal.Hand
end
-- ==== Proof.AttnFinite.lean ====
/- The attention call: what the precondition says of the arguments. -/
module

public import proofs.«01_k».proof.Defs
public import Idealize.ShloMosaic.Lib.ValueIdx
public import Idealize.ShloMosaic.Lib.Claim

@[expose] public section

set_option maxRecDepth 16384

noncomputable section

namespace Cert.KernelIdeal.Hand

open Idealize.ShloMosaic Idealize.ShloMosaic.TcCoe Idealize.SL.Sem

/-- The precondition's side conditions hold. -/
theorem finiteFacts : Cert.Pre_finite.Facts := by
  constructor <;> decide

/-- An element below infinity in magnitude is a real number. -/
theorem mag_lt (x : EReal) (h : Ideal.cmp .olt (max x (-x)) (Ideal.ofBits .f32 0x7F800000#32) = 1#1) : x ≠ ⊤ ∧ x ≠ ⊥ := by
  have e : Ideal.ofBits .f32 0x7F800000#32 = (⊤ : EReal) := by simp [Ideal.ofBits, Ideal.ieee]
  rw [e] at h
  have h2 : max x (-x) < ⊤ := by
    by_contra hn
    have : Ideal.cmp .olt (max x (-x)) (⊤ : EReal) = 0#1 := by
      unfold Ideal.cmp
      simp only [decide_eq_false hn]
      rfl
    rw [this] at h
    exact absurd h (by decide)
  refine ⟨(lt_of_le_of_lt (le_max_left _ _) h2).ne, fun hb => ?_⟩
  rw [hb] at h2
  exact absurd h2 (by simp)

variable [Cert.Pre_finite.Facts] {x0 : FVec Ideal Cert.Pre_finite.S32768x1024 .f32} {q : FVec Ideal Cert.Pre_finite.S32768x1024 .bf16}
  {k v : FVec Ideal Cert.Pre_finite.S8x4096x4x64 .f32} {b : FVec Ideal Cert.Pre_finite.S16x128x256 .f32}
  {z : FVec Ideal Cert.Pre_finite.S16 .f32} {a6 : FVec Ideal Cert.Pre_finite.S1024x1024 .f32} {a7 : FVec Ideal Cert.Pre_finite.S1024 .f32}
  {a8 : FVec Ideal Cert.Pre_finite.S1024x5632 .f32} {a9 : FVec Ideal Cert.Pre_finite.S2816x1024 .f32}

theorem real_queries (h : (Cert.Pre_finite.fn (F := Ideal) x0 q k v b z a6 a7 a8 a9).1 = fun _ => 1#1)
    (i : Cert.Pre_finite.S32768x1024.Idx) : q i ≠ ⊤ ∧ q i ≠ ⊥ := by
  have h := congrFun h i
  unfold Cert.Pre_finite.fn at h
  dsimp only at h
  exact mag_lt (q i) h

theorem real_keys (h : (Cert.Pre_finite.fn (F := Ideal) x0 q k v b z a6 a7 a8 a9).2.1 = fun _ => 1#1)
    (i : Cert.Pre_finite.S8x4096x4x64.Idx) : k i ≠ ⊤ ∧ k i ≠ ⊥ := by
  have h := congrFun h i
  unfold Cert.Pre_finite.fn at h
  dsimp only at h
  exact mag_lt (k i) h

theorem real_bias (h : (Cert.Pre_finite.fn (F := Ideal) x0 q k v b z a6 a7 a8 a9).2.2.1 = fun _ => 1#1)
    (i : Cert.Pre_finite.S16x128x256.Idx) : b i ≠ ⊤ ∧ b i ≠ ⊥ := by
  have h := congrFun h i
  unfold Cert.Pre_finite.fn at h
  dsimp only at h
  exact mag_lt (b i) h

theorem real_sinks (h : (Cert.Pre_finite.fn (F := Ideal) x0 q k v b z a6 a7 a8 a9).2.2.2 = fun _ => 1#1)
    (i : Cert.Pre_finite.S16.Idx) : z i ≠ ⊤ ∧ z i ≠ ⊥ := by
  have h := congrFun h i
  unfold Cert.Pre_finite.fn at h
  dsimp only at h
  exact mag_lt (z i) h

end Cert.KernelIdeal.Hand
end
-- ==== Proof.AttnClaim.lean ====
/- The attention call computes its reference over the reals. -/
module

public import proofs.«01_k».proof.Defs
public import proofs.«01_k».proof.Proof.AttnArray
public import proofs.«01_k».proof.Proof.AttnRefSoft
public import proofs.«01_k».proof.Proof.AttnFinite
public import Idealize.ShloMosaic.Lib.Claim

@[expose] public section

set_option maxRecDepth 16384

noncomputable section

namespace Cert.ReferenceIdeal.Hand

open Cert.ReferenceIdeal Cert.ReferenceIdeal.Read
open Idealize.ShloMosaic Idealize.ShloMosaic.TcCoe Idealize.SL.Sem
open Cert.Spec
open Cert.KernelIdeal.Hand (Seen keyPos seqOf scoreAt valueAt attn resid G late_congr)

/-- A sum of products of real numbers is below infinity. -/
theorem sum_ne_top {ι : Type} (S : Finset ι) (a b : ι → EReal) (ha : ∀ i, a i ≠ ⊤ ∧ a i ≠ ⊥) (hb : ∀ i, b i ≠ ⊤ ∧ b i ≠ ⊥) :
    ∑ i ∈ S, a i * b i ≠ ⊤ := by
  lift a to ι → ℝ using ha
  lift b to ι → ℝ using hb
  have e : ∑ i ∈ S, ((a i : ℝ) : EReal) * ((b i : ℝ) : EReal) = ((∑ i ∈ S, a i * b i : ℝ) : EReal) := by
    classical
    induction S using Finset.induction_on with
    | empty => rfl
    | insert i S hi ih => rw [Finset.sum_insert hi, Finset.sum_insert hi, ih, ← EReal.coe_mul, ← EReal.coe_add]
  rw [e]
  exact EReal.coe_ne_top _

theorem score_ne_top {q : FVec Ideal S32768x1024 .bf16} {k : FVec Ideal S8x4096x4x64 .f32} {b : FVec Ideal S16x128x256 .f32}
    (hq : ∀ i, q i ≠ ⊤ ∧ q i ≠ ⊥) (hk : ∀ i, k i ≠ ⊤ ∧ k i ≠ ⊥) (hb : ∀ i, b i ≠ ⊤ ∧ b i ≠ ⊥) (n : Fin 32768) (h : Fin 16) (κ : Fin 256) :
    scoreAt q k b n h κ ≠ ⊤ := by
  unfold scoreAt
  by_cases hs : Seen n κ
  · rw [if_pos hs]
    exact EReal.add_ne_top (sum_ne_top _ _ _ (fun _ => hk _) fun _ => hq _) (hb _).1
  · rw [if_neg hs]
    exact bot_ne_top

/-- The reference's heads, where every score and sink logit is a real number. -/
theorem attn_ref (q : FVec Ideal S32768x1024 .bf16) (k v : FVec Ideal S8x4096x4x64 .f32) (b : FVec Ideal S16x128x256 .f32)
    (z : FVec Ideal S16 .f32) (hq : ∀ i, q i ≠ ⊤ ∧ q i ≠ ⊥) (hk : ∀ i, k i ≠ ⊤ ∧ k i ≠ ⊥) (hb : ∀ i, b i ≠ ⊤ ∧ b i ≠ ⊥)
    (hz : ∀ i, z i ≠ ⊤ ∧ z i ≠ ⊥) (n : Fin 32768) (l : Fin 1024) :
    val_main_v67 (F := Ideal) q k v b z (ix2 n l) = attn q k v b z n l := by
  have en : row ⟨n.val / 4096, by omega⟩ ⟨n.val % 4096 / 128, by omega⟩ ⟨n.val % 128, by omega⟩ = n := Fin.ext (by dsimp only; omega)
  have eh : head ⟨l.val / 256, by omega⟩ ⟨l.val / 64 % 4, by omega⟩ = ⟨l.val / 64, by omega⟩ := Fin.ext (by dsimp only; omega)
  have es : (fun κ => val_main_v45 (F := Ideal) q k b (ix6 ⟨n.val / 4096, by omega⟩ ⟨n.val % 4096 / 128, by omega⟩ ⟨l.val / 256, by omega⟩
      ⟨l.val / 64 % 4, by omega⟩ ⟨n.val % 128, by omega⟩ κ)) = scoreAt q k b n ⟨l.val / 64, by omega⟩ := by
    funext κ
    rw [score_at, en, eh]
  rw [heads_at, weighted_at, es, eh, ← late_eq_soft _ (fun κ => score_ne_top hq hk hb n _ κ) _ (hz _).1 (hz _).2]
  unfold attn
  refine late_congr (fun _ => rfl) rfl fun κ hκ => ?_
  have hs : Seen n κ := by
    by_contra hs
    exact hκ (if_neg hs)
  have h0 : 0 < n.val % 4096 / 128 ∨ 128 ≤ κ.val := hs.2.imp (fun h => by omega) id
  rw [band_value v _ _ κ _ _ h0]
  refine congrArg v ?_
  have h1 : (⟨128 * (n.val % 4096 / 128) + κ.val - 128, by omega⟩ : Fin 4096) = keyPos n κ := Fin.ext (by simp only [keyPos]; omega)
  have h2 : (⟨l.val / 256, by omega⟩ : Fin 4) = ⟨l.val / 64 / 4, by omega⟩ := Fin.ext (by dsimp only; omega)
  rw [h1, h2]
  rfl

theorem resid_ref (x : FVec Ideal S32768x1024 .f32) (q : FVec Ideal S32768x1024 .bf16) (k v : FVec Ideal S8x4096x4x64 .f32)
    (b : FVec Ideal S16x128x256 .f32) (z : FVec Ideal S16 .f32) (wo : FVec Ideal S1024x1024 .f32)
    (hq : ∀ i, q i ≠ ⊤ ∧ q i ≠ ⊥) (hk : ∀ i, k i ≠ ⊤ ∧ k i ≠ ⊥) (hb : ∀ i, b i ≠ ⊤ ∧ b i ≠ ⊥)
    (hz : ∀ i, z i ≠ ⊤ ∧ z i ≠ ⊥) (n : Fin 32768) (e : Fin 1024) :
    val_main_v69 (F := Ideal) x q k v b z wo (ix2 n e) = resid x q k v b z wo n e := by
  have ha := attn_ref q k v b z hq hk hb hz n
  unfold resid val_main_v69 val_main_v68
  generalize val_main_v67 (F := Ideal) q k v b z = A at ha ⊢
  pointwise []
  simp only [ha]

theorem ref_eq (x : FVec Ideal S32768x1024 .f32) (q : FVec Ideal S32768x1024 .bf16) (k v : FVec Ideal S8x4096x4x64 .f32)
    (b : FVec Ideal S16x128x256 .f32) (z : FVec Ideal S16 .f32) (wo : FVec Ideal S1024x1024 .f32) (g : FVec Ideal S1024 .f32)
    (w : FVec Ideal S1024x5632 .f32) (wd : FVec Ideal S2816x1024 .f32)
    (hq : ∀ i, q i ≠ ⊤ ∧ q i ≠ ⊥) (hk : ∀ i, k i ≠ ⊤ ∧ k i ≠ ⊥) (hb : ∀ i, b i ≠ ⊤ ∧ b i ≠ ⊥)
    (hz : ∀ i, z i ≠ ⊤ ∧ z i ≠ ⊥) :
    val_main_v97 (F := Ideal) x q k v b z wo g w wd = G x q k v b z wo g w wd := by
  funext i
  have hr := resid_ref x q k v b z wo hq hk hb hz (i 0)
  unfold G
  rw [show resid x q k v b z wo (i 0) = fun e => val_main_v69 (F := Ideal) x q k v b z wo (ix2 (i 0) e) from funext fun e => (hr e).symm]
  unfold val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_cst_8 val_main_cst_9 val_main_cst_10 val_main_cst_11 val_main_cst_12 val_main_cst_13
  generalize val_main_v69 (F := Ideal) x q k v b z wo = Y
  pointwise [ffn, act, rms]
  rfl

end Cert.ReferenceIdeal.Hand

namespace Cert.KernelIdeal.Hand

open Cert.KernelIdeal Cert.KernelIdeal.Gen
open Idealize.ShloMosaic Idealize.ShloMosaic.TcCoe Idealize.SL.Sem

/-- The attention call computes the reference over the reals, where every score and sink logit is a real number. -/
theorem claim [Cert.Pre_finite.Facts] : Cert.algebraic_KernelIdeal_ReferenceIdeal_pre_finite := by
  intro m g m' g' hpre hagree
  refine ⟨fun c => G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)), ?_, ?_⟩
  · run_from Cert.KernelIdeal.Value.run_blocks m g
    exact final m _
  · refine (θ_run Cert.ReferenceIdeal.defs _ _).mono (fun r h c => ⟨?_, (h c).2⟩) (Cert.ReferenceIdeal.Value.run (F := Ideal) m' g')
    obtain ⟨h1, h2, h3, h4⟩ := hpre c
    obtain ⟨a0, a1, a2, a3, a4, a5, a6, a7, a8, a9⟩ := hagree c
    refine (h c).1.trans ((Cert.ReferenceIdeal.Read.val_main_v97_eq (StableHlo.launchContents m' c)).trans ?_)
    refine Eq.trans ?_ (Cert.ReferenceIdeal.Hand.ref_eq _ _ _ _ _ _ _ _ _ _ (real_queries h1) (real_keys h2) (real_bias h3) (real_sinks h4))
    rw [← a0, ← a1, ← a2, ← a3, ← a4, ← a5, ← a6, ← a7, ← a8, ← a9]

end Cert.KernelIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.KernelIdeal.Value
public import proofs.«01_k».proof.Proof.Gen.FfnIdeal.Value
public import proofs.«01_k».proof.Proof.Gen.ReferenceIdeal.Run
public import proofs.«01_k».proof.Proof.Gen.FfnRefIdeal.Run
public import proofs.«01_k».proof.Proof.Gen.ReferenceIdeal.Read
public import proofs.«01_k».proof.Proof.Gen.FfnRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.FfnClaim
public import proofs.«01_k».proof.Proof.ProjClaim
public import proofs.«01_k».proof.Proof.AttnClaim
public import Idealize.ShloMosaic.Adequacy
public import Idealize.ShloMosaic.Init

@[expose] public section

noncomputable section

namespace Cert.Proof

open Idealize.ShloMosaic Idealize.SL.Sem Cert.Kernel

/-- The attention reference has host operations only and keeps its arguments. -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same where every score and sink logit is a real number. -/
theorem frame_reference_finite [Cert.Pre_finite.Facts] : Cert.quiescent_ReferenceIdeal_pre_finite := fun m ρ _ =>
  frame_reference m ρ trivial

/-- The feed-forward reference has host operations only and keeps its arguments. -/
theorem frame_ffnRef : Cert.quiescent_FfnRefIdeal := by
  intro m ρ _
  exact (θ_run Cert.FfnRefIdeal.defs _ _).mono
    (fun r h => ⟨fun c => (h c).2, Idealize.ShloMosaic.sem_eq_zero_of_no_sems (by decide) r.2⟩)
    (Cert.FfnRefIdeal.Value.run (F := Ideal) m ρ)

/-- The projections' reference has host operations only and keeps its arguments. -/
theorem frame_projRef : Cert.quiescent_ProjRefIdeal := by
  intro m ρ _
  exact (θ_run Cert.ProjRefIdeal.defs _ _).mono
    (fun r h => ⟨fun c => (h c).2.2.2.2.2.2, Idealize.ShloMosaic.sem_eq_zero_of_no_sems (by decide) r.2⟩)
    (Cert.ProjRefIdeal.Value.run (F := Ideal) m ρ)

theorem claim : Cert.Claim :=
  have := Cert.KernelIdeal.Hand.finiteFacts
  ⟨Cert.Kernel.Gen.facts, Cert.KernelIdeal.Gen.facts, Cert.ReferenceIdeal.Gen.facts, Cert.Ffn.Gen.facts,
    Cert.FfnIdeal.Gen.facts, Cert.FfnRefIdeal.Gen.facts, Cert.Proj.Gen.facts, Cert.ProjIdeal.Gen.facts,
    Cert.ProjRefIdeal.Gen.facts, Cert.KernelIdeal.Hand.finiteFacts,
    fun m ρ _ => Cert.Kernel.Gen.frame m ρ, fun m ρ _ => Cert.KernelIdeal.Gen.frame m ρ, fun m ρ _ => Cert.KernelIdeal.Gen.frame m ρ,
    frame_reference, frame_reference_finite,
    fun m ρ _ => Cert.Ffn.Gen.frame m ρ, fun m ρ _ => Cert.FfnIdeal.Gen.frame m ρ, frame_ffnRef,
    fun m ρ _ => Cert.Proj.Gen.frame m ρ, fun m ρ _ => Cert.ProjIdeal.Gen.frame m ρ, frame_projRef,
    trivial, Cert.KernelIdeal.Hand.claim, trivial, Cert.FfnIdeal.Hand.claim, trivial, Cert.ProjIdeal.Hand.claim⟩

end Cert.Proof

end
